-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_features_finite_in_range [hPre_features_finite_in_range : Cert.Pre_features_finite_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_features_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_features_finite_in_range [hPre_features_finite_in_range : Cert.Pre_features_finite_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_features_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_features_finite_in_range [hKernelIdeal : Cert.KernelIdeal.Facts] [hPre_features_finite_in_range : Cert.Pre_features_finite_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_features_finite_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_features_finite_in_range [hReferenceIdeal : Cert.ReferenceIdeal.Facts] [hPre_features_finite_in_range : Cert.Pre_features_finite_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_features_finite_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "log2e_over_temp" .f32 0x429044FE#32 (((268435456 / 5368709) * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal_pre_features_finite_in_range [hKernelIdeal : Cert.KernelIdeal.Facts] [hReferenceIdeal : Cert.ReferenceIdeal.Facts] [hPre_features_finite_in_range : Cert.Pre_features_finite_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_features_finite_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts) (hPre_features_finite_in_range : Cert.Pre_features_finite_in_range.Facts),
    quiescent_Kernel (hKernel := hKernel) (hPre_in_range := hPre_in_range)
    ∧ quiescent_KernelIdeal (hKernelIdeal := hKernelIdeal) (hPre_in_range := hPre_in_range)
    ∧ quiescent_KernelIdeal_pre_features_finite_in_range (hKernelIdeal := hKernelIdeal) (hPre_features_finite_in_range := hPre_features_finite_in_range)
    ∧ quiescent_ReferenceIdeal (hReferenceIdeal := hReferenceIdeal)
    ∧ quiescent_ReferenceIdeal_pre_features_finite_in_range (hReferenceIdeal := hReferenceIdeal) (hPre_features_finite_in_range := hPre_features_finite_in_range)
    ∧ preserves_Kernel_KernelIdeal
    ∧ algebraic_KernelIdeal_ReferenceIdeal_pre_features_finite_in_range (hKernelIdeal := hKernelIdeal) (hReferenceIdeal := hReferenceIdeal) (hPre_features_finite_in_range := hPre_features_finite_in_range)
-- ==== Pre_features_finite_in_range.lean ====
abbrev S1024x128 : Shape := ⟨2, ![1024, 128]⟩
abbrev S1024 : Shape := ⟨1, ![1024]⟩
abbrev S100000x128 : Shape := ⟨2, ![100000, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S1024x128 .f32) (main_arg1 : FVec F S1024x128 .f32) (main_arg2 : IVec S1024 32) (main_arg3 : FVec F S100000x128 .f32) : IVec S_ 1 :=
  let main_v0 : FVec F S100000x128 .f32 := Host.absf main_arg3
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_c_0 : IVec S_ 32 := constantI S_ 32 0#32
  let main_v4 : IVec S1024 32 := broadcastInDim S1024 ![] bcast_S_S1024 main_c_0
  let main_v5 : IVec S1024 1 := cmpi .sge main_arg2 main_v4
  let main_c_1 : IVec S_ 32 := constantI S_ 32 100000#32
  let main_v6 : IVec S1024 32 := broadcastInDim S1024 ![] bcast_S_S1024 main_c_1
  let main_v7 : IVec S1024 1 := cmpi .slt main_arg2 main_v6
  let main_v8 : IVec S1024 1 := andi main_v5 main_v7
  let main_c_2 : IVec S_ 1 := constantI S_ 1 1#1
  let main_v9 : IVec S_ 1 := (fun x v => Host.reduce IntOp.andi x v reducesTo_S1024_S_d0 h_S_) main_v8 main_c_2
  let main_v10 : IVec S_ 1 := andi main_v3 main_v9
  main_v10
-- ==== Pre_in_range.lean ====
abbrev S1024x128 : Shape := ⟨2, ![1024, 128]⟩
abbrev S1024 : Shape := ⟨1, ![1024]⟩
abbrev S100000x128 : Shape := ⟨2, ![100000, 128]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : FVec F S1024x128 .f32) (main_arg1 : FVec F S1024x128 .f32) (main_arg2 : IVec S1024 32) (main_arg3 : FVec F S100000x128 .f32) : IVec S_ 1 :=
  let main_c : IVec S_ 32 := constantI S_ 32 0#32
  let main_v0 : IVec S1024 32 := broadcastInDim S1024 ![] bcast_S_S1024 main_c
  let main_v1 : IVec S1024 1 := cmpi .sge main_arg2 main_v0
  let main_c_0 : IVec S_ 32 := constantI S_ 32 100000#32
  let main_v2 : IVec S1024 32 := broadcastInDim S1024 ![] bcast_S_S1024 main_c_0
  let main_v3 : IVec S1024 1 := cmpi .slt main_arg2 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  main_v5
-- ==== Kernel.lean ====
abbrev S1024x128 : Shape := ⟨2, ![1024, 128]⟩
abbrev S1024 : Shape := ⟨1, ![1024]⟩
abbrev S100000x128 : Shape := ⟨2, ![100000, 128]⟩
abbrev S1024x1 : Shape := ⟨2, ![1024, 1]⟩
abbrev S4000x128 : Shape := ⟨2, ![4000, 128]⟩
abbrev S1024x4000 : Shape := ⟨2, ![1024, 4000]⟩
abbrev S64 : Shape := ⟨1, ![64]⟩
abbrev S64x128 : Shape := ⟨2, ![64, 128]⟩
abbrev S_ : Shape := ⟨0, ![]⟩
abbrev S1x1 : Shape := ⟨2, ![1, 1]⟩
abbrev S1x1024x1 : Shape := ⟨3, ![1, 1024, 1]⟩
abbrev S1 : Shape := ⟨1, ![1]⟩
abbrev S1x1x1 : Shape := ⟨3, ![1, 1, 1]⟩

abbrev nBuf : Table → Nat
  | .hbm => 9
  | .local .tc .vmem => 19
  | .local .scVector .vmem => 2
  | _ => 0

abbrev bufTy : (tb : Table) → Fin (nBuf tb) → BufTy
  | .hbm, ⟨0, _⟩ => ⟨S1024x128, .f32⟩
  | .hbm, ⟨1, _⟩ => ⟨S1024x128, .f32⟩
  | .hbm, ⟨2, _⟩ => ⟨S1024, .i32⟩
  | .hbm, ⟨3, _⟩ => ⟨S100000x128, .f32⟩
  | .hbm, ⟨4, _⟩ => ⟨S1024x128, .f32⟩
  | .hbm, ⟨5, _⟩ => ⟨S1024x1, .f32⟩
  | .hbm, ⟨6, _⟩ => ⟨S1024x128, .f32⟩
  | .hbm, ⟨7, _⟩ => ⟨S1x1, .f32⟩
  | .hbm, ⟨8, _⟩ => ⟨S_, .f32⟩
  | .local .tc .vmem, ⟨0, _⟩ => ⟨S1024x128, .f32⟩
  | .local .tc .vmem, ⟨1, _⟩ => ⟨S1024x128, .f32⟩
  | .local .tc .vmem, ⟨2, _⟩ => ⟨S1024x128, .f32⟩
  | .local .tc .vmem, ⟨3, _⟩ => ⟨S4000x128, .f32⟩
  | .local .tc .vmem, ⟨4, _⟩ => ⟨S4000x128, .f32⟩
  | .local .tc .vmem, ⟨5, _⟩ => ⟨S4000x128, .f32⟩
  | .local .tc .vmem, ⟨6, _⟩ => ⟨S4000x128, .f32⟩
  | .local .tc .vmem, ⟨7, _⟩ => ⟨S4000x128, .f32⟩
  | .local .tc .vmem, ⟨8, _⟩ => ⟨S4000x128, .f32⟩
  | .local .tc .vmem, ⟨9, _⟩ => ⟨S4000x128, .f32⟩
  | .local .tc .vmem, ⟨10, _⟩ => ⟨S4000x128, .f32⟩
  | .local .tc .vmem, ⟨11, _⟩ => ⟨S4000x128, .f32⟩
  | .local .tc .vmem, ⟨12, _⟩ => ⟨S4000x128, .f32⟩
  | .local .tc .vmem, ⟨13, _⟩ => ⟨S1024x1, .f32⟩
  | .local .tc .vmem, ⟨14, _⟩ => ⟨S1024x1, .f32⟩
  | .local .tc .vmem, ⟨15, _⟩ => ⟨S1024x128, .f32⟩
  | .local .tc .vmem, ⟨16, _⟩ => ⟨S1024x128, .f32⟩
  | .local .tc .vmem, ⟨17, _⟩ => ⟨S1024x1, .f32⟩
  | .local .tc .vmem, ⟨18, _⟩ => ⟨S1x1, .f32⟩
  | .local .scVector .vmem, ⟨0, _⟩ => ⟨S64, .i32⟩
  | .local .scVector .vmem, ⟨1, _⟩ => ⟨S64x128, .f32⟩
  | _, _ => ⟨S1024x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => false
  | ⟨15, _⟩ => false
  | ⟨16, _⟩ => false
  | ⟨17, _⟩ => true
  | ⟨18, _⟩ => true
  | ⟨19, _⟩ => true
  | ⟨20, _⟩ => true
  | _ => false

abbrev sig : RefSig :=
  ofTables nBuf rfl bufTy 4 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_arg3_scv : Ref sig .scVector := ⟨.hbm, 3, rfl⟩
abbrev main_arg2_scv : Ref sig .scVector := ⟨.hbm, 2, rfl⟩
abbrev main_v2_scv : Ref sig .scVector := ⟨.hbm, 6, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg1_0 : Ref sig .tc := ⟨.vmem, 3, rfl⟩
abbrev cc1_stg1_1 : Ref sig .tc := ⟨.vmem, 4, rfl⟩
abbrev cc1_stg2_0 : Ref sig .tc := ⟨.vmem, 5, rfl⟩
abbrev cc1_stg2_1 : Ref sig .tc := ⟨.vmem, 6, rfl⟩
abbrev cc1_stg3_0 : Ref sig .tc := ⟨.vmem, 7, rfl⟩
abbrev cc1_stg3_1 : Ref sig .tc := ⟨.vmem, 8, rfl⟩
abbrev cc1_stg4_0 : Ref sig .tc := ⟨.vmem, 9, rfl⟩
abbrev cc1_stg4_1 : Ref sig .tc := ⟨.vmem, 10, rfl⟩
abbrev cc1_stg5_0 : Ref sig .tc := ⟨.vmem, 11, rfl⟩
abbrev cc1_stg5_1 : Ref sig .tc := ⟨.vmem, 12, rfl⟩
abbrev cc1_stg6_0 : Ref sig .tc := ⟨.vmem, 13, rfl⟩
abbrev cc1_scratch0 : Ref sig .tc := ⟨.vmem, 14, rfl⟩
abbrev cc3_stg0_0 : Ref sig .tc := ⟨.vmem, 15, rfl⟩
abbrev cc3_stg1_0 : Ref sig .tc := ⟨.vmem, 16, rfl⟩
abbrev cc3_stg2_0 : Ref sig .tc := ⟨.vmem, 17, rfl⟩
abbrev cc3_stg3_0 : Ref sig .tc := ⟨.vmem, 18, rfl⟩
abbrev cc2_scratch0 : Ref sig .scVector := ⟨.vmem, 0, rfl⟩
abbrev cc2_scratch1 : Ref sig .scVector := ⟨.vmem, 1, rfl⟩
abbrev cc0_sem0_0 : DmaSem sig := 0
abbrev cc0_sem1_0 : DmaSem sig := 1
abbrev cc1_sem0_0 : DmaSem sig := 2
abbrev cc1_sem1_0 : DmaSem sig := 3
abbrev cc1_sem1_1 : DmaSem sig := 4
abbrev cc1_sem2_0 : DmaSem sig := 5
abbrev cc1_sem2_1 : DmaSem sig := 6
abbrev cc1_sem3_0 : DmaSem sig := 7
abbrev cc1_sem3_1 : DmaSem sig := 8
abbrev cc1_sem4_0 : DmaSem sig := 9
abbrev cc1_sem4_1 : DmaSem sig := 10
abbrev cc1_sem5_0 : DmaSem sig := 11
abbrev cc1_sem5_1 : DmaSem sig := 12
abbrev cc1_sem6_0 : DmaSem sig := 13
abbrev cc3_sem0_0 : DmaSem sig := 17
abbrev cc3_sem1_0 : DmaSem sig := 18
abbrev cc3_sem2_0 : DmaSem sig := 19
abbrev cc3_sem3_0 : DmaSem sig := 20
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨1, ![5], ![false]⟩

def k1_cond2 (i : grid1.Coords) : BitVec 1 :=
  let arg0 : BitVec 32 := BitVec.ofNat 32 (i 0).val
  let c4_i32 : BitVec 32 := 4#32
  let v41 : BitVec 1 := Scalar.cmpi .eq arg0 c4_i32
  let v42 : BitVec 32 := Scalar.extui v41
  let c0_i32_26 : BitVec 32 := 0#32
  let v43 : BitVec 1 := Scalar.cmpi .ne v42 c0_i32_26
  v43

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_2 (i : grid1.Coords) : Fin 2 → Nat :=
  let arg0 : BitVec 32 := BitVec.ofNat 32 (i 0).val
  let c5_i32 : BitVec 32 := 5#32
  let v0 : BitVec 32 := Scalar.addi c5_i32 arg0
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let c10_i32 : BitVec 32 := 10#32
  let v0 : BitVec 32 := Scalar.addi c10_i32 arg0
  let c0_i32 : BitVec 32 := 0#32
  let c0_i32_0 : BitVec 32 := 0#32
  ![v0.toNat, c0_i32.toNat]

def cc1_transform_4 (i : grid1.Coords) : Fin 2 → Nat :=
  let arg0 : BitVec 32 := BitVec.ofNat 32 (i 0).val
  let c15_i32 : BitVec 32 := 15#32
  let v0 : BitVec 32 := Scalar.addi c15_i32 arg0
  let c0_i32 : BitVec 32 := 0#32
  let c0_i32_0 : BitVec 32 := 0#32
  ![v0.toNat, c0_i32.toNat]

def cc1_transform_5 (i : grid1.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![v0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1024x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1024x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨2, ![1, 16], ![false, false]⟩

def k2_off1 (i : grid2.Coords) : Fin 1 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c64_i32 : BitVec 32 := 64#32
  let v2 : BitVec 32 := Scalar.muli v1 c64_i32
  ![v2.toNat]
def k2_off2 (i : grid2.Coords) : Fin 2 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_3_r1 : BitVec 32 := 0#32
  ![v2.toNat, 0]
abbrev grid3 : Pipeline.Grid := .none

abbrev stage3_0 : Fin 1 → Memref sig .tc .vmem S1024x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S1024x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S1024x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S1x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | "log2e_over_temp" => some (((268435456 / 5368709) * (Real.log 2)⁻¹ : ℝ) : EReal)
  | _ => none
-- ==== ReferenceIdeal.lean ====
abbrev S1024x128 : Shape := ⟨2, ![1024, 128]⟩
abbrev S1024 : Shape := ⟨1, ![1024]⟩
abbrev S100000x128 : Shape := ⟨2, ![100000, 128]⟩
abbrev S_ : Shape := ⟨0, ![]⟩
abbrev S1024x1 : Shape := ⟨2, ![1024, 1]⟩
abbrev S128x100000 : Shape := ⟨2, ![128, 100000]⟩
abbrev S1024x100000 : Shape := ⟨2, ![1024, 100000]⟩
abbrev S1024x1x1 : Shape := ⟨3, ![1024, 1, 1]⟩
abbrev S1 : Shape := ⟨1, ![1]⟩
abbrev S1x1x1 : Shape := ⟨3, ![1, 1, 1]⟩

abbrev nBuf : Space → Nat
  | .hbm => 72
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024, .i32⟩
  | .hbm, ⟨3, _⟩ => ⟨S100000x128, .f32⟩
  | .hbm, ⟨4, _⟩ => ⟨S1024x128, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S1024x1, .f32⟩
  | .hbm, ⟨9, _⟩ => ⟨S_, .f32⟩
  | .hbm, ⟨10, _⟩ => ⟨S1024x1, .f32⟩
  | .hbm, ⟨11, _⟩ => ⟨S1024x1, .f32⟩
  | .hbm, ⟨12, _⟩ => ⟨S1024x128, .f32⟩
  | .hbm, ⟨13, _⟩ => ⟨S1024x128, .f32⟩
  | .hbm, ⟨14, _⟩ => ⟨S1024x128, .f32⟩
  | .hbm, ⟨15, _⟩ => ⟨S_, .f32⟩
  | .hbm, ⟨16, _⟩ => ⟨S1024, .f32⟩
  | .hbm, ⟨17, _⟩ => ⟨S1024x1, .f32⟩
  | .hbm, ⟨18, _⟩ => ⟨S1024x1, .f32⟩
  | .hbm, ⟨19, _⟩ => ⟨S_, .f32⟩
  | .hbm, ⟨20, _⟩ => ⟨S1024x1, .f32⟩
  | .hbm, ⟨21, _⟩ => ⟨S1024x1, .f32⟩
  | .hbm, ⟨22, _⟩ => ⟨S1024x128, .f32⟩
  | .hbm, ⟨23, _⟩ => ⟨S1024x128, .f32⟩
  | .hbm, ⟨24, _⟩ => ⟨S128x100000, .f32⟩
  | .hbm, ⟨25, _⟩ => ⟨S1024x100000, .f32⟩
  | .hbm, ⟨26, _⟩ => ⟨S_, .f32⟩
  | .hbm, ⟨27, _⟩ => ⟨S1024x100000, .f32⟩
  | .hbm, ⟨28, _⟩ => ⟨S1024x100000, .f32⟩
  | .hbm, ⟨29, _⟩ => ⟨S_, .f32⟩
  | .hbm, ⟨30, _⟩ => ⟨S1024, .f32⟩
  | .hbm, ⟨31, _⟩ => ⟨S_, .f32⟩
  | .hbm, ⟨32, _⟩ => ⟨S1024, .f32⟩
  | .hbm, ⟨33, _⟩ => ⟨S1024, .f32⟩
  | .hbm, ⟨34, _⟩ => ⟨S1024x1, .f32⟩
  | .hbm, ⟨35, _⟩ => ⟨S1024x100000, .f32⟩
  | .hbm, ⟨36, _⟩ => ⟨S1024x100000, .f32⟩
  | .hbm, ⟨37, _⟩ => ⟨S1024x100000, .f32⟩
  | .hbm, ⟨38, _⟩ => ⟨S_, .f32⟩
  | .hbm, ⟨39, _⟩ => ⟨S1024, .f32⟩
  | .hbm, ⟨40, _⟩ => ⟨S1024x1, .f32⟩
  | .hbm, ⟨41, _⟩ => ⟨S1024x1, .f32⟩
  | .hbm, ⟨42, _⟩ => ⟨S1024x100000, .f32⟩
  | .hbm, ⟨43, _⟩ => ⟨S1024x100000, .f32⟩
  | .hbm, ⟨44, _⟩ => ⟨S1024x1, .i32⟩
  | .hbm, ⟨45, _⟩ => ⟨S_, .i32⟩
  | .hbm, ⟨46, _⟩ => ⟨S1024x1, .i32⟩
  | .hbm, ⟨47, _⟩ => ⟨S1024x1, .i1⟩
  | .hbm, ⟨48, _⟩ => ⟨S_, .i32⟩
  | .hbm, ⟨49, _⟩ => ⟨S1024x1, .i32⟩
  | .hbm, ⟨50, _⟩ => ⟨S1024x1, .i32⟩
  | .hbm, ⟨51, _⟩ => ⟨S1024x1, .i32⟩
  | .hbm, ⟨52, _⟩ => ⟨S1024x1x1, .i32⟩
  | .hbm, ⟨53, _⟩ => ⟨S1, .i32⟩
  | .hbm, ⟨54, _⟩ => ⟨S_, .i32⟩
  | .hbm, ⟨55, _⟩ => ⟨S1024x1x1, .i32⟩
  | .hbm, ⟨56, _⟩ => ⟨S1024x1x1, .i1⟩
  | .hbm, ⟨57, _⟩ => ⟨S1x1x1, .i32⟩
  | .hbm, ⟨58, _⟩ => ⟨S1024x1x1, .i32⟩
  | .hbm, ⟨59, _⟩ => ⟨S1024x1x1, .i1⟩
  | .hbm, ⟨60, _⟩ => ⟨S1024x1x1, .i1⟩
  | .hbm, ⟨61, _⟩ => ⟨S_, .i1⟩
  | .hbm, ⟨62, _⟩ => ⟨S1024x1, .i1⟩
  | .hbm, ⟨63, _⟩ => ⟨S1024x1, .f32⟩
  | .hbm, ⟨64, _⟩ => ⟨S_, .f32⟩
  | .hbm, ⟨65, _⟩ => ⟨S1024x1, .f32⟩
  | .hbm, ⟨66, _⟩ => ⟨S1024x1, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_call2_cst : Ref sig .tc := ⟨.hbm, 29, rfl⟩
abbrev main_call2_v0 : Ref sig .tc := ⟨.hbm, 30, rfl⟩
abbrev main_call2_cst_0 : Ref sig .tc := ⟨.hbm, 31, rfl⟩
abbrev main_call2_v1 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_call2_v5 : Ref sig .tc := ⟨.hbm, 36, rfl⟩
abbrev main_call2_v6 : Ref sig .tc := ⟨.hbm, 37, rfl⟩
abbrev main_call2_cst_1 : Ref sig .tc := ⟨.hbm, 38, rfl⟩
abbrev main_call2_v7 : Ref sig .tc := ⟨.hbm, 39, rfl⟩
abbrev main_call2_v8 : Ref sig .tc := ⟨.hbm, 40, rfl⟩
abbrev main_call2_v9 : Ref sig .tc := ⟨.hbm, 41, rfl⟩
abbrev main_call2_v10 : Ref sig .tc := ⟨.hbm, 42, rfl⟩
abbrev main_v14 : Ref sig .tc := ⟨.hbm, 43, rfl⟩
abbrev main_v15 : Ref sig .tc := ⟨.hbm, 44, rfl⟩
abbrev main_call3_c : Ref sig .tc := ⟨.hbm, 45, rfl⟩
abbrev main_call3_v0 : Ref sig .tc := ⟨.hbm, 46, rfl⟩
abbrev main_call3_v1 : Ref sig .tc := ⟨.hbm, 47, rfl⟩
abbrev main_call3_c_0 : Ref sig .tc := ⟨.hbm, 48, rfl⟩
abbrev main_call3_v2 : Ref sig .tc := ⟨.hbm, 49, rfl⟩
abbrev main_call3_v3 : Ref sig .tc := ⟨.hbm, 50, rfl⟩
abbrev main_call3_v4 : Ref sig .tc := ⟨.hbm, 51, rfl⟩
abbrev main_call3_v5 : Ref sig .tc := ⟨.hbm, 52, rfl⟩
abbrev main_call3_c_1 : Ref sig .tc := ⟨.hbm, 53, rfl⟩
abbrev main_call3_c_2 : Ref sig .tc := ⟨.hbm, 54, rfl⟩
abbrev main_call3_v6 : Ref sig .tc := ⟨.hbm, 55, rfl⟩
abbrev main_call3_v7 : Ref sig .tc := ⟨.hbm, 56, rfl⟩
abbrev main_call3_v8 : Ref sig .tc := ⟨.hbm, 57, rfl⟩
abbrev main_call3_v9 : Ref sig .tc := ⟨.hbm, 58, rfl⟩
abbrev main_call3_v10 : Ref sig .tc := ⟨.hbm, 59, rfl⟩
abbrev main_call3_v11 : Ref sig .tc := ⟨.hbm, 60, rfl⟩
abbrev main_call3_c_3 : Ref sig .tc := ⟨.hbm, 61, rfl⟩
abbrev main_call3_v12 : Ref sig .tc := ⟨.hbm, 62, rfl⟩
abbrev main_call3_v13 : Ref sig .tc := ⟨.hbm, 63, rfl⟩
abbrev main_call3_cst : Ref sig .tc := ⟨.hbm, 64, rfl⟩
abbrev main_call3_v14 : Ref sig .tc := ⟨.hbm, 65, rfl⟩
abbrev main_v16 : Ref sig .tc := ⟨.hbm, 66, rfl⟩
abbrev main_cst_2 : Ref sig .tc := ⟨.hbm, 67, rfl⟩
abbrev main_v17 : Ref sig .tc := ⟨.hbm, 68, rfl⟩
abbrev main_cst_3 : Ref sig .tc := ⟨.hbm, 69, rfl⟩
abbrev main_v18 : Ref sig .tc := ⟨.hbm, 70, rfl⟩
abbrev main_v19 : Ref sig .tc := ⟨.hbm, 71, rfl⟩

abbrev nD : Nat := 1
abbrev τ : Topo := Topo.v7x

variable {F : FTy → Type} [FloatOps F]
-- ==== Proof.KI.Setup.lean ====
/-
  The certificate's names for the idealised kernel: the program as the SparseCore launch theorem takes it, the ghost
  state that the handshakes, the three pipelines and the transfers share, and the buffers of @main.
-/
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Regions
public import Idealize.ShloMosaic.Lib.SparseCore.Quiescent
public import Idealize.ShloMosaic.Lib.SparseCore.Threads
public import Idealize.ShloMosaic.Lib.Pipeline.RegionsLoop
public import Idealize.ShloMosaic.Lib.Pipeline.ValueKit
public import Idealize.ShloMosaic.Lib.VecWindow
public import Idealize.ShloMosaic.Lib.Pipeline.TableIdle
public import Idealize.ShloMosaic.Lib.Tactic

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-! ## The program -/

/-- The labels of the program under the SparseCore's: the three pipelines' entries over the kernels' bodies. -/
abbrev ΛP : Labels := Pipeline.Sig Λ₀ (Fin 3) fun p => (pcfgs (F := F) p).Adm
/-- The SparseCore call's configuration. -/
abbrev K : SparseCore.Cfg τ sig (ΛP (F := F)) 1 := sc (F := F)
theorem nSub_zero : (K (F := F)).nSub 0 = 16 := rfl
/-- The bodies that the pipelines' entries and the kernels name. -/
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshake's semaphores are distinct and live outside every scope, and no buffer of the SparseCore is shared. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state -/

/-- The handshakes' rounds. -/
abbrev UH : Type := URounds (GSem nD τ sig) ℕ
/-- The pipelines' rounds. -/
abbrev UP : Type := UR sig nD τ
/-- All of it: the handshakes', the pipelines', and the counters from which the transfers take their tokens. -/
abbrev UU : Type := UH × (UP × Counters)

local notation "𝕄" => MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) := (Emb.inl : Emb UP (UP × Counters)).trans embR

instance EP_lands : (EP (F := F)).LandsIn (upEmb : UEmb _ 𝕄) := by unfold KI.EP; infer_instance

/-- No pipeline has a table to pin. -/
abbrev adm : (p : Fin 3) → (pcfgs (F := F) p).Adm := fun p => ⟨fun i => i.elim0, by trivial⟩

end Cert.Proof.KI

end
-- ==== Proof.KI.Tile.lean ====
/-
  The SparseCore call: each of the sixteen tiles fetches its 64 class numbers, gathers those rows of the features by one
  indirect transfer, and writes them out to its 64 rows of the result; what the call takes and gives back.
-/
module

public import proofs.«01_k».proof.Proof.KI.Setup
public import Idealize.ShloMosaic.Lib.SparseCore.Ops
public import Idealize.ShloMosaic.Lib.SparseCore.Stream

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (m : (ℓ : Loc nD τ sig) → Buf (Elt F) ℓ)

/-! ## The three operands and the tile's scratch -/

abbrev tgtAt (d : Dev nD) : Loc nD τ sig := (SparseCore.T d).loc main_arg2
abbrev ftrAt (d : Dev nD) : Loc nD τ sig := (SparseCore.T d).loc main_arg3
abbrev resAt (d : Dev nD) : Loc nD τ sig := (SparseCore.T d).loc main_v2

abbrev tgtM : Memref sig .scVector .hbm S1024 .i32 := Memref.whole main_arg2_scv
abbrev ftrM : Memref sig .scVector .hbm S100000x128 .f32 := Memref.whole main_arg3_scv
abbrev resM : Memref sig .scVector .hbm S1024x128 .f32 := Memref.whole main_v2_scv
abbrev lstM : Memref sig .scVector .vmem S64 .i32 := Memref.whole cc2_scratch0
abbrev rowM : Memref sig .scVector .vmem S64x128 .f32 := Memref.whole cc2_scratch1

theorem tgt_div : 16 ∣ S1024.size 0 := ⟨64, rfl⟩
theorem res_div : 16 ∣ S1024x128.size 0 := ⟨64, rfl⟩
/-- Tile `i`'s 64 class numbers, and its 64 rows of the result. -/
abbrev tgtPart (i : Fin 16) : Finset S1024.Idx := (tgtM.view.slice (Rect.part (s := S1024) (a₀ := 0) tgt_div i)).set
abbrev resPart (i : Fin 16) : Finset S1024x128.Idx := (resM.view.slice (Rect.part (s := S1024x128) (a₀ := 0) res_div i)).set

/-- What the precondition gives: every class number names a row of the features. -/
def InRange : Prop := ∀ (d : Dev nD) (j : S1024.Idx), (m (tgtAt d) j).toNat < 100000

/-- The index of the features' row that a class number names. -/
def rowAt (w : BitVec 32) (k : Fin 128) : S100000x128.Idx :=
  fun | ⟨0, _⟩ => ⟨w.toNat % 100000, Nat.mod_lt _ (by decide)⟩ | ⟨1, _⟩ => k

/-- The features' rows at the targets. -/
def gathered (t : S1024.Idx → BitVec 32) (f : S100000x128.Idx → F .f32) : S1024x128.Idx → F .f32 :=
  fun j => f (rowAt (t fun | ⟨0, _⟩ => ⟨(j 0).val, (j 0).isLt⟩) ⟨(j 1).val, (j 1).isLt⟩)

/-- The call's result. -/
def rows2 (d : Dev nD) : Buf (Elt F) (resAt d) := gathered (m (tgtAt d)) (m (ftrAt d))

/-! ## What the call's handshakes carry -/

abbrev tgtPts (d : Dev nD) : sProp 𝕄 := tgtAt d ↦{fullShare} m (tgtAt d)
abbrev ftrPts (d : Dev nD) : sProp 𝕄 := ftrAt d ↦{fullShare} m (ftrAt d)
abbrev resPts (d : Dev nD) (f : Buf (Elt F) (resAt d)) : sProp 𝕄 := resAt d ↦{fullShare} f
abbrev tgtPartPts (d : Dev nD) (i : Fin 16) : sProp 𝕄 := tgtAt d ↦[tgtPart i]{fullShare} m (tgtAt d)
abbrev ftrTok (d : Dev nD) (i : Fin 16) : sProp 𝕄 := ftrAt d ↦{Transfers.shareTok fullShare 16 i} m (ftrAt d)
abbrev resPartPts (d : Dev nD) (i : Fin 16) (f : Buf (Elt F) (resAt d)) : sProp 𝕄 := resAt d ↦[resPart i]{fullShare} f

/-- The call takes the targets, the features and the result whole; each tile takes its part of the targets, a read share of
    the features and its part of the result, and brings them back with the gathered rows in the result. -/
def P : (K (F := F)).Pay (nD := nD) (Val := Elt F) (Name := ℕ) (U := UU) where
  st := fun q d _ => match q with | 0 => iprop(tgtPts m d ∗ ftrPts m d ∗ resPts d (m (resAt d)))
  dn := fun q d _ => match q with | 0 => iprop(tgtPts m d ∗ ftrPts m d ∗ resPts d (rows2 m d))
  go := fun q d _ i => match q with
    | 0 => iprop(tgtPartPts m d (Fin.cast nSub_zero i) ∗ ftrTok m d (Fin.cast nSub_zero i) ∗ resPartPts d (Fin.cast nSub_zero i) (m (resAt d)))
  td := fun q d _ i => match q with
    | 0 => iprop(tgtPartPts m d (Fin.cast nSub_zero i) ∗ ftrTok m d (Fin.cast nSub_zero i) ∗ resPartPts d (Fin.cast nSub_zero i) (rows2 m d))
  x := fun _ _ => iprop(emp)

instance P_storable : (P (F := F) m).IsStorable where
  st q d _ := match q with
    | 0 => (inferInstance : BI.Storable (upEmb : UEmb _ 𝕄) iprop(tgtPts m d ∗ ftrPts m d ∗ resPts d (m (resAt d))))
  dn q d _ := match q with
    | 0 => (inferInstance : BI.Storable (upEmb : UEmb _ 𝕄) iprop(tgtPts m d ∗ ftrPts m d ∗ resPts d (rows2 m d)))
  go q d _ i := match q with
    | 0 => (inferInstance : BI.Storable (upEmb : UEmb _ 𝕄)
      iprop(tgtPartPts m d (Fin.cast nSub_zero i) ∗ ftrTok m d (Fin.cast nSub_zero i) ∗ resPartPts d (Fin.cast nSub_zero i) (m (resAt d))))
  td q d _ i := match q with
    | 0 => (inferInstance : BI.Storable (upEmb : UEmb _ 𝕄)
      iprop(tgtPartPts m d (Fin.cast nSub_zero i) ∗ ftrTok m d (Fin.cast nSub_zero i) ∗ resPartPts d (Fin.cast nSub_zero i) (rows2 m d)))

/-! ## A tile's task -/

section Tile

variable (d : Dev nD) (L : grid2.Coords)

abbrev coreOf (L : grid2.Coords) : Fin τ.nSC := (L 0).castLE hcore2
abbrev tileOf (L : grid2.Coords) : Fin τ.nSub := (L 1).castLE hsub2
theorem bound_tiles : grid2.bound 1 = 16 := rfl
abbrev partOf (L : grid2.Coords) : Fin 16 := Fin.cast bound_tiles (L 1)

theorem off1_word : ∀ (a : Fin 1) (n : Fin 16),
    (Scalar.muli (Scalar.addi (Scalar.muli (BitVec.ofNat 32 n.val) 1#32) (BitVec.ofNat 32 a.val)) 64#32).toNat = 64 * n.val := by
  decide
theorem off1_eq : k2_off1 L = ![64 * (L 1).val] := by
  funext a
  match a with
  | ⟨0, _⟩ => exact off1_word (L 0) (L 1)
theorem off2_eq : k2_off2 L = ![64 * (L 1).val, 0] := by
  have h : (k2_off2 L) 0 = (k2_off1 L) 0 := rfl
  funext a
  match a with
  | ⟨0, _⟩ => exact h.trans (congrFun (off1_eq L) 0)
  | ⟨1, _⟩ => rfl

abbrev tgtRect (L : grid2.Coords) : Rect S1024 := Rect.unit (s := S1024) (k2_off1 L) S64.size (k2_off1_inb L)
abbrev resRect (L : grid2.Coords) : Rect S1024x128 := Rect.unit (s := S1024x128) (k2_off2 L) S64x128.size (k2_off2_inb L)
/-- The tile's class numbers, its rows of the result, and all the features, as its task addresses them. -/
abbrev tgtK (L : grid2.Coords) : Memref sig .scVector .hbm S64 .i32 := tgtM.slice (tgtRect L) (fun _ => rfl)
abbrev resK (L : grid2.Coords) : Memref sig .scVector .hbm S64x128 .f32 := resM.slice (resRect L) (fun _ => rfl)
abbrev ftrK : Memref sig .scVector .hbm S100000x128 .f32 :=
  ftrM.slice (Rect.unit (s := S100000x128) ![0, 0] S100000x128.size inb_S100000x128_S100000x128_0_0) (fun _ => rfl)

theorem tgtRect_eq : tgtRect L = Rect.part (s := S1024) (a₀ := 0) tgt_div (partOf L) := by
  unfold tgtRect Rect.part Rect.block
  congr 1 <;> funext a <;> match a with
    | ⟨0, _⟩ => first
      | (rw [off1_eq]; simp [Shape.partIx, Shape.partSize, Nat.mul_comm])
      | simp [Shape.partSize]
theorem resRect_eq : resRect L = Rect.part (s := S1024x128) (a₀ := 0) res_div (partOf L) := by
  unfold resRect Rect.part Rect.block
  congr 1 <;> funext a
  · rw [off2_eq]
    match a with
    | 0 => simp [Shape.partIx, Shape.partSize, Nat.mul_comm]
    | 1 => simp [Shape.partIx, Shape.partSize]
  · match a with
    | 0 => simp [Shape.partSize]
    | 1 => simp [Shape.partSize]

theorem set_tgtK : (tgtK L).view.set = tgtPart (partOf L) := by
  show (tgtM.view.slice (tgtRect L)).set = _
  exact tgtRect_eq L ▸ rfl
theorem set_resK : (resK L).view.set = resPart (partOf L) := by
  show (resM.view.slice (resRect L)).set = _
  exact resRect_eq L ▸ rfl

theorem pts_tgtK (f : Buf (Elt F) (tgtAt d)) :
    ((tgtK L).view.loc (V d (coreOf L) (tileOf L)) ↦[(tgtK L).view.set]{fullShare} f : sProp 𝕄) = tgtAt d ↦[tgtPart (partOf L)]{fullShare} f := by
  rw [set_tgtK]
theorem pts_resK (f : Buf (Elt F) (resAt d)) :
    ((resK L).view.loc (V d (coreOf L) (tileOf L)) ↦[(resK L).view.set]{fullShare} f : sProp 𝕄) = resAt d ↦[resPart (partOf L)]{fullShare} f := by
  rw [set_resK]
theorem pts_ftrM (q : PosShare TreeShare) (f : Buf (Elt F) (ftrAt d)) :
    (ftrM.view.loc (V d (coreOf L) (tileOf L)) ↦{q} f : sProp 𝕄) = ftrAt d ↦{q} f := rfl
theorem pts_lstM (f : Buf (Elt F) ((V d (coreOf L) (tileOf L)).loc cc2_scratch0)) :
    (lstM.view.loc (V d (coreOf L) (tileOf L)) ↦{fullShare} f : sProp 𝕄) = (V d (coreOf L) (tileOf L)).loc cc2_scratch0 ↦{fullShare} f := rfl
theorem pts_rowM (f : Buf (Elt F) ((V d (coreOf L) (tileOf L)).loc cc2_scratch1)) :
    (rowM.view.loc (V d (coreOf L) (tileOf L)) ↦{fullShare} f : sProp 𝕄) = (V d (coreOf L) (tileOf L)).loc cc2_scratch1 ↦{fullShare} f := rfl

/-- The tile's three semaphores: the fetch's, the gather's, the write-out's. -/
abbrev semA (d : Dev nD) (c : Fin τ.nSC) (i : Fin τ.nSub) : GSem nD τ sig := (V d c i, .dma cc2_scoped0.sem)
abbrev semB (d : Dev nD) (c : Fin τ.nSC) (i : Fin τ.nSub) : GSem nD τ sig := (V d c i, .dma cc2_scratch2.sem)
abbrev semC (d : Dev nD) (c : Fin τ.nSC) (i : Fin τ.nSub) : GSem nD τ sig := (V d c i, .dma cc2_scoped1.sem)

theorem sems_split :
    (ownSems0 (V d (coreOf L) (tileOf L)) : sProp 𝕄)
      = iprop(semVal (semA d (coreOf L) (tileOf L)) 0 ∗ semVal (semB d (coreOf L) (tileOf L)) 0 ∗ semVal (semC d (coreOf L) (tileOf L)) 0
          ∗ bigSep ((((ownCells (V d (coreOf L) (tileOf L))).erase (semA d (coreOf L) (tileOf L))).erase (semB d (coreOf L) (tileOf L))).erase (semC d (coreOf L) (tileOf L))) fun g => semVal g 0) := by
  have hA : semA d (coreOf L) (tileOf L) ∈ ownCells (V d (coreOf L) (tileOf L)) :=
    mem_ownCells.mpr ⟨rfl, by show (SemLoc.dma cc2_scoped0.sem : SemLoc sig).isScoped .scVector = true; decide⟩
  have hB : semB d (coreOf L) (tileOf L) ∈ ownCells (V d (coreOf L) (tileOf L)) :=
    mem_ownCells.mpr ⟨rfl, by show (SemLoc.dma cc2_scratch2.sem : SemLoc sig).isScoped .scVector = true; decide⟩
  have hC : semC d (coreOf L) (tileOf L) ∈ ownCells (V d (coreOf L) (tileOf L)) :=
    mem_ownCells.mpr ⟨rfl, by show (SemLoc.dma cc2_scoped1.sem : SemLoc sig).isScoped .scVector = true; decide⟩
  have hBA : semB d (coreOf L) (tileOf L) ≠ semA d (coreOf L) (tileOf L) := by simp [semA, semB]; decide
  have hCA : semC d (coreOf L) (tileOf L) ≠ semA d (coreOf L) (tileOf L) := by simp [semA, semC]; decide
  have hCB : semC d (coreOf L) (tileOf L) ≠ semB d (coreOf L) (tileOf L) := by simp [semB, semC]; decide
  unfold SparseCore.Cfg.ownSems0
  rw [SparseCore.bigSep_erase' hA, SparseCore.bigSep_erase' (Finset.mem_erase.mpr ⟨hBA, hB⟩),
    SparseCore.bigSep_erase' (Finset.mem_erase.mpr ⟨hCB, Finset.mem_erase.mpr ⟨hCA, hC⟩⟩)]

theorem bufs_split :
    (ownBufs (V d (coreOf L) (tileOf L)) : sProp 𝕄)
      = iprop((∃ f, (V d (coreOf L) (tileOf L)).loc cc2_scratch0 ↦{fullShare} f) ∗ (∃ f, (V d (coreOf L) (tileOf L)).loc cc2_scratch1 ↦{fullShare} f)
          ∗ bigSep (((ownRefs (τ := τ) (.scVector (coreOf L) (tileOf L))).erase ((Proc.scVector (coreOf L) (tileOf L)).devRef cc2_scratch0)).erase
              ((Proc.scVector (coreOf L) (tileOf L)).devRef cc2_scratch1))
              fun b => iprop(∃ f, ((d, b) : Loc nD τ sig) ↦{fullShare} f)) := by
  have h0 : (Proc.scVector (coreOf L) (tileOf L)).devRef cc2_scratch0 ∈ ownRefs (τ := τ) (.scVector (coreOf L) (tileOf L)) :=
    SparseCore.Cfg.mem_ownRefs_of_owner (p := Proc.scVector (coreOf L) (tileOf L)) rfl
  have h1 : (Proc.scVector (coreOf L) (tileOf L)).devRef cc2_scratch1 ∈ ownRefs (τ := τ) (.scVector (coreOf L) (tileOf L)) :=
    SparseCore.Cfg.mem_ownRefs_of_owner (p := Proc.scVector (coreOf L) (tileOf L)) rfl
  have hne : (Proc.scVector (coreOf L) (tileOf L)).devRef cc2_scratch1 ≠ (Proc.scVector (coreOf L) (tileOf L)).devRef cc2_scratch0 :=
    fun e => absurd (Proc.devRef_injective _ e) (show (cc2_scratch1 : Ref sig .scVector) ≠ cc2_scratch0 by decide)
  unfold SparseCore.Cfg.ownBufs
  refine (SparseCore.bigSep_erase' h0).trans ?_
  rw [SparseCore.bigSep_erase' (Finset.mem_erase.mpr ⟨hne, h1⟩)]

/-- The class numbers as the tile's fetch reads them. -/
theorem read_tgtK (y : S64.Idx) : (tgtK L).view.read (Elt F) (m (tgtAt d)) y = m (tgtAt d) ((tgtK L).view.emb y) :=
  (View.read_apply _ _).trans (cast_eq _ _)

/-- The fetched list names rows of the features. -/
theorem list_in_range (hm : InRange m) (fs : Buf (Elt F) ((V d (coreOf L) (tileOf L)).loc cc2_scratch0)) (w : S64.Idx → Elt F .i32)
    (hw : w = (tgtK L).view.read (Elt F) (m (tgtAt d))) :
    ∀ x, (lstM.view.read (Elt F) (View.write (Elt F) lstM.view fs w Finset.univ) x).toNat < S100000x128.size gathers_S100000x128_S64x128.axis := by
  intro x
  rw [View.read_write_univ, hw, read_tgtK]
  exact hm d _

theorem lin64 (k : Fin (S64x128.size gathers_S100000x128_S64x128.axis')) (hn : S64.numel = S64x128.size gathers_S100000x128_S64x128.axis') :
    ((S64.rowMajor.symm (k.cast hn.symm)) 0).val = k.val := by
  have h : ∀ y : S64.Idx, (S64.rowMajor y).val = (y 0).val := by
    intro y
    exact Shape.rowMajor_val_one y
  rw [← h, Equiv.apply_symm_apply]; rfl

/-- What the tile writes out is the features' rows at its class numbers. -/
theorem tile_value (hm : InRange m) (fs : Buf (Elt F) ((V d (coreOf L) (tileOf L)).loc cc2_scratch0))
    (fr : Buf (Elt F) ((V d (coreOf L) (tileOf L)).loc cc2_scratch1)) (w : S64.Idx → Elt F .i32)
    (hw : w = (tgtK L).view.read (Elt F) (m (tgtAt d))) (hn : S64.numel = S64x128.size gathers_S100000x128_S64x128.axis')
    (hin : ∀ x, (lstM.view.read (Elt F) (View.write (Elt F) lstM.view fs w Finset.univ) x).toNat < S100000x128.size gathers_S100000x128_S64x128.axis)
    (v : S64x128.Idx → Elt F .f32)
    (hv : v = rowM.view.read (Elt F) (View.write (Elt F) rowM.view fr
      (SparseCore.gatherPayload gathers_S100000x128_S64x128 (ftrK.view.read (Elt F) (m (ftrAt d)))
        (SparseCore.rows (lstM.view.read (Elt F) (View.write (Elt F) lstM.view fs w Finset.univ)) hn hin)) Finset.univ)) :
    ∀ i ∈ (resK L).view.set, (resK L).view.writes (Elt F) (m (resAt d)) [⟨Rect.whole S64x128, v⟩] i = rows2 m d i := by
  intro i hi
  obtain ⟨y, rfl⟩ := View.exists_emb_of_mem_set _ hi
  have hy : (Rect.whole S64x128).emb y = y := by funext a; apply Fin.ext; show 0 + 1 * (y a).val = (y a).val; omega
  have hw' := View.read_writes_cons_emb (Val := Elt F) (v := (resK L).view) (f := m (resAt d)) (Rect.whole S64x128) v [] y
  rw [hy] at hw'
  refine (((View.read_apply _ _).trans (cast_eq _ _)).symm.trans hw').trans ?_
  rw [hv, View.read_write_univ]
  unfold SparseCore.gatherPayload
  refine ((View.read_apply _ _).trans (cast_eq _ _)).trans ?_
  unfold rows2 gathered
  refine congrArg (m (ftrAt d)) ?_
  refine (Rect.emb_unit_full _ _).trans ?_
  funext a
  match a with
  | ⟨0, _⟩ =>
    apply Fin.ext
    rw [show (gathers_S100000x128_S64x128.idx (SparseCore.rows (lstM.view.read (Elt F) (View.write (Elt F) lstM.view fs w Finset.univ)) hn hin) y ⟨0, by decide⟩)
        = SparseCore.rows (lstM.view.read (Elt F) (View.write (Elt F) lstM.view fs w Finset.univ)) hn hin (y 0) from
      Shape.Gathers.idx_axis _ _ _]
    unfold SparseCore.rows rowAt
    simp only [View.read_write_univ, hw, read_tgtK]
    have e : ((resK L).view.emb y 0).val = k2_off2 L 0 + 1 * (y 0).val := rfl
    have e' : ∀ z : S64.Idx, ((tgtK L).view.emb z 0).val = k2_off1 L 0 + 1 * (z 0).val := fun _ => rfl
    rw [off2_eq] at e
    rw [Nat.mod_eq_of_lt (hm d _)]
    refine congrArg (fun j => (m (tgtAt d) j).toNat) ?_
    funext b
    match b with
    | ⟨0, _⟩ =>
      apply Fin.ext
      refine (e' _).trans ?_
      rw [off1_eq, lin64 _ hn]
      exact e.symm
  | ⟨1, _⟩ =>
    apply Fin.ext
    rw [Shape.Gathers.idx_of_ne _ _ _ _ Nat.one_ne_zero]
    have e : ((resK L).view.emb y 1).val = k2_off2 L 1 + 1 * (y 1).val := rfl
    rw [off2_eq] at e
    show (y 1).val = ((resK L).view.emb y 1).val
    rw [e]; simp

set_option maxHeartbeats 4000000 in
/-- The task of tile `(L 0, L 1)` of device `d`: the class numbers fetched, the rows gathered, the rows written out. -/
theorem tile_run (hm : InRange m) (O : CellTallies nD τ sig (HIx 1)) (W : Waits sig (HIx 1)) (hO : ∀ g, O g none = 0) :
    iprop(levAts (K (F := F)).L (K (F := F)).lev ∗ emp
        ∗ (tgtPartPts m d (partOf L) ∗ ftrTok m d (partOf L) ∗ resPartPts d (partOf L) (m (resAt d)))
        ∗ scopedBufs (V d (coreOf L) (tileOf L)) ∗ scopedSems0 (V d (coreOf L) (tileOf L)) ∗ owes (V d (coreOf L) (tileOf L)) O W)
      ⊢ wp frame (wpE (defs₀ (F := F)) 𝒱₀ (V d (coreOf L) (tileOf L)) none) Set.univ
          (cc2_sc_gather L ftrM (Memref.isWhole_whole _) tgtM (Memref.isWhole_whole _) resM (Memref.isWhole_whole _)
            lstM (Memref.isWhole_whole _) rowM (Memref.isWhole_whole _) cc2_scratch2 cc2_scoped0 cc2_scoped1)
          fun _ => iprop((tgtPartPts m d (partOf L) ∗ ftrTok m d (partOf L) ∗ resPartPts d (partOf L) (rows2 m d))
            ∗ scopedBufs (V d (coreOf L) (tileOf L)) ∗ scopedSems0 (V d (coreOf L) (tileOf L))
            ∗ ∃ W', ⌜∀ p ∈ W', p ∈ W ∨ p.2 = none⌝ ∗ owes (V d (coreOf L) (tileOf L)) O W') := by
  simp only [cc2_sc_gather_eq_skeleton]; unfold cc2_sc_gather_skel
  rw [(K (F := F)).scopedBufs_V facts d (coreOf L) (tileOf L), SparseCore.Cfg.scopedSems0_V (Val := Elt F) d (coreOf L) (tileOf L), sems_split, bufs_split]
  iintro ⟨#Hlv, -, ⟨Ht, Hf, Ho⟩, ⟨⟨%fs, Hl⟩, ⟨%fr, Hr⟩, Hbufs⟩, ⟨HA, HB, HC, Hsems⟩, HO⟩
  ihave Hmw := (show levAts (K (F := F)).L (K (F := F)).lev ⊢ Transfers.MayWaits (V d (coreOf L) (tileOf L)) (default : HIx 1) O from
    (K (F := F)).mayWaits_none (thr := V d (coreOf L) (tileOf L)) hO) $$ Hlv
  ihave Ht' := (Entails.of_eq (pts_tgtK (F := F) d L _).symm) $$ Ht
  ihave Ho' := (Entails.of_eq (pts_resK (F := F) d L _).symm) $$ Ho
  ihave Hf' := (Entails.of_eq (pts_ftrM (F := F) d L _ _).symm) $$ Hf
  ihave Hl' := (Entails.of_eq (pts_lstM (F := F) d L _).symm) $$ Hl
  ihave Hr' := (Entails.of_eq (pts_rowM (F := F) d L _).symm) $$ Hr
  sl_exec
  ihave Hfs := (pointsTo_split_subset (q := Transfers.shareTok fullShare 16 (partOf L)) (f := m (ftrAt d)) (S := Finset.univ) (Finset.subset_univ ftrK.view.set)).1 $$ Hf'
  icases Hfs with ⟨Hfs, Hfrest⟩
  have hrs : rowM.view.set = Finset.univ := View.set_whole _
  have hls : lstM.view.set = Finset.univ := View.set_whole _
  ihave Hr2 := (Entails.of_eq (show (rowM.view.loc (V d (coreOf L) (tileOf L)) ↦{fullShare} fr : sProp 𝕄)
      = rowM.view.loc (V d (coreOf L) (tileOf L)) ↦[rowM.view.set]{fullShare} fr by rw [hrs])) $$ Hr'
  ihave Hl2 := (Entails.of_eq (show (lstM.view.loc (V d (coreOf L) (tileOf L)) ↦{fullShare} View.write (Elt F) lstM.view fs (tile_run.sl.dma0 m d L) Finset.univ : sProp 𝕄)
      = lstM.view.loc (V d (coreOf L) (tileOf L)) ↦[lstM.view.set]{fullShare} View.write (Elt F) lstM.view fs (tile_run.sl.dma0 m d L) Finset.univ
      by rw [hls])) $$ Hl'
  have hin := list_in_range m d L hm fs (tile_run.sl.dma0 m d L) rfl
  have hN : ∀ h : S100000x128.Gathers 0 S64x128, ∑ j, (rowM.slice (S64x128.rowRect h.axis' j) (S64x128.stride_rowRect h.axis' j)).view.dmaCredit
      = rowM.view.dmaCredit := by decide
  iapply (SparseCore.wp_indirectGatherLocal countersEmb 𝒱₀ (V d (coreOf L) (tileOf L)) none (hg := gathers_S100000x128_S64x128) (default : HIx 1)
      rowM.view.dmaCredit (hN _) (by decide) hin) $$ [Hfs Hr2 Hl2 HB]
  · isplitl [Hfs]; · iexact Hfs
    isplitl [Hr2]; · iexact Hr2
    isplitl [Hl2]; · iexact Hl2
    iexact HB
  iintro Hfl
  sl_exec
  iapply (Transfers.wp_waitLocalO countersEmb 𝒱₀ (V d (coreOf L) (tileOf L)) none (default : HIx 1) (rfl : rowM.view.dmaCredit = _)) $$ [Hfl HO]
  · isplitl [Hfl]; · iexact Hfl
    isplitl [HO]; · iexact HO
    iapply (Transfers.MayWaits.elim (SemLoc.dma cc2_scratch2.sem)) $$ Hmw
  iintro ⟨⟨Hr', Hfs, Hl'⟩, HB, HO⟩
  ihave Hf' := (pointsTo_split_subset (q := Transfers.shareTok fullShare 16 (partOf L)) (f := m (ftrAt d)) (S := Finset.univ) (Finset.subset_univ ftrK.view.set)).2 $$ [Hfs Hfrest]
  · isplitl [Hfs] <;> iassumption
  ihave Hr3 := (Entails.of_eq (show (rowM.view.loc (V d (coreOf L) (tileOf L)) ↦[rowM.view.set]{fullShare} _ : sProp 𝕄)
      = rowM.view.loc (V d (coreOf L) (tileOf L)) ↦{fullShare} _ by rw [hrs])) $$ Hr'
  ihave Hl3 := (Entails.of_eq (show (lstM.view.loc (V d (coreOf L) (tileOf L)) ↦[lstM.view.set]{fullShare} _ : sProp 𝕄)
      = lstM.view.loc (V d (coreOf L) (tileOf L)) ↦{fullShare} _ by rw [hls])) $$ Hl'
  sl_exec
  sl_step
  isplitl [Ht' Hf' Ho']
  · isplitl [Ht']; · iapply (Entails.of_eq (pts_tgtK (F := F) d L _)); iexact Ht'
    isplitl [Hf']; · iexact Hf'
    ihave Ho2 := (Entails.of_eq (pointsTo_congr (tile_value m d L hm fs fr (tile_run.sl.dma0 m d L) rfl rfl hin
      (tile_run.sl.dma0_1 m d L fs fr hin) rfl))) $$ Ho'
    iapply (Entails.of_eq (pts_resK (F := F) d L _))
    iexact Ho2
  isplitl [Hl3 Hr3 Hbufs]
  · isplitl [Hl3]; · iexists _; iexact Hl3
    isplitl [Hr3]; · iexists _; iexact Hr3
    iexact Hbufs
  isplitl [HA HB HC Hsems]
  · isplitl [HA]; · iexact HA
    isplitl [HB]; · iexact HB
    isplitl [HC]; · iexact HC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation to the launch -/

/-- The coordinates of tile `s` of SparseCore `c`. -/
def coords (c : Fin (grid2.bound 0)) (s : Fin (grid2.bound 1)) : grid2.Coords :=
  fun | 0 => c | 1 => s | ⟨_ + 2, h⟩ => absurd h (Nat.not_lt.2 (Nat.le_add_left _ _))

theorem task_eq (c : Fin τ.nSC) (s : Fin τ.nSub) :
    defs₀ (F := F) (.scVector c s) 2 ()
      = SparseCore.onTile hcore2 hsub2 (fun c s => cc2_sc_gather (coords c s)
          ftrM (Memref.isWhole_whole _) tgtM (Memref.isWhole_whole _) resM (Memref.isWhole_whole _)
          lstM (Memref.isWhole_whole _) rowM (Memref.isWhole_whole _) cc2_scratch2 cc2_scoped0 cc2_scoped1) ⟨⟩ c s := rfl

/-- A task's waits, all at the local index, are among those the launch allows. -/
theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  refine sep_mono .rfl (sep_mono .rfl (sep_mono .rfl ?_))
  iintro ⟨%W', %h, H⟩
  iexists W'; isplitr
  · ipureintro; intro p hp; exact (h p hp).elim .inl fun e => .inr (.inl e)
  iexact H

set_option maxRecDepth 16384 in
theorem tileObl (hm : InRange m) : (K (F := F)).TileObl (D (F := F)) 𝒱 (P m) v₀ 0 := by
  intro d c i O W hO _ _
  simp only [show (P m).ox = fun _ _ => 0 from rfl, add_zero]
  have hci : ((K (F := F)).core 0 c).val < grid2.bound 0 ∧ ((K (F := F)).sub 0 i).val < grid2.bound 1 := ⟨c.isLt, i.isLt⟩
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  rw [task_eq]; simp only [SparseCore.onTile, hci, and_self, ↓reduceDIte]
  exact (tile_run m d (coords ⟨_, hci.1⟩ ⟨_, hci.2⟩) hm O W hO).trans (wp_mono frame _ _ fun _ => waits_weaken)

end Tile

/-! ## The operands split among the tiles and join again -/

theorem tgtPart_eq (i : Fin 16) : tgtPart i = (Rect.part (s := S1024) (a₀ := 0) tgt_div i).set := by
  show ((View.whole (main_arg2_scv : Ref sig .scVector)).slice _).set = _
  rw [View.set_slice]; exact Finset.map_refl
theorem resPart_eq (i : Fin 16) : resPart i = (Rect.part (s := S1024x128) (a₀ := 0) res_div i).set := by
  show ((View.whole (main_v2_scv : Ref sig .scVector)).slice _).set = _
  rw [View.set_slice]; exact Finset.map_refl

theorem tgt_parts (d : Dev nD) (f : Buf (Elt F) (tgtAt d)) :
    (tgtAt d ↦{fullShare} f : sProp 𝕄) = bigSep Finset.univ fun i : Fin 16 => tgtAt d ↦[tgtPart i]{fullShare} f := by
  have hd : ∀ i ∈ (Finset.univ : Finset (Fin 16)), ∀ j ∈ (Finset.univ : Finset (Fin 16)), i ≠ j → Disjoint (tgtPart i) (tgtPart j) :=
    fun i _ j _ h => by rw [tgtPart_eq, tgtPart_eq]; exact Rect.part_disjoint tgt_div h
  have hc : (Finset.univ : Finset (Fin 16)).biUnion tgtPart = Finset.univ :=
    (Finset.biUnion_congr rfl fun i _ => tgtPart_eq i).trans (Rect.biUnion_part tgt_div)
  rw [← pointsTo_biUnion Finset.univ (ℓ := tgtAt d) tgtPart hd, hc]; try rfl
theorem res_parts (d : Dev nD) (f : Buf (Elt F) (resAt d)) :
    (resAt d ↦{fullShare} f : sProp 𝕄) = bigSep Finset.univ fun i : Fin 16 => resAt d ↦[resPart i]{fullShare} f := by
  have hd : ∀ i ∈ (Finset.univ : Finset (Fin 16)), ∀ j ∈ (Finset.univ : Finset (Fin 16)), i ≠ j → Disjoint (resPart i) (resPart j) :=
    fun i _ j _ h => by rw [resPart_eq, resPart_eq]; exact Rect.part_disjoint res_div h
  have hc : (Finset.univ : Finset (Fin 16)).biUnion resPart = Finset.univ :=
    (Finset.biUnion_congr rfl fun i _ => resPart_eq i).trans (Rect.biUnion_part res_div)
  rw [← pointsTo_biUnion Finset.univ (ℓ := resAt d) resPart hd, hc]; try rfl

theorem over_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show iprop(tgtPts m d ∗ ftrPts m d ∗ resPts d (m (resAt d))) ⊢ |={Set.univ}=> iprop(
      (bigSep Finset.univ fun i : Fin ((K (F := F)).nSub 0) =>
        iprop(tgtPartPts m d (Fin.cast nSub_zero i) ∗ ftrTok m d (Fin.cast nSub_zero i) ∗ resPartPts d (Fin.cast nSub_zero i) (m (resAt d))))
      ∗ ((bigSep Finset.univ fun i : Fin ((K (F := F)).nSub 0) =>
          iprop(tgtPartPts m d (Fin.cast nSub_zero i) ∗ ftrTok m d (Fin.cast nSub_zero i) ∗ resPartPts d (Fin.cast nSub_zero i) (rows2 m d)))
          -∗ iprop(tgtPts m d ∗ ftrPts m d ∗ resPts d (rows2 m d))))
  rw [over_tasks (F := F) (fun i => iprop(tgtPartPts m d i ∗ ftrTok m d i ∗ resPartPts d i (m (resAt d)))),
    over_tasks (F := F) (fun i => iprop(tgtPartPts m d i ∗ ftrTok m d i ∗ resPartPts d i (rows2 m d))), bigSep_sep', bigSep_sep', bigSep_sep', bigSep_sep']
  unfold tgtPts resPts tgtPartPts resPartPts
  rw [tgt_parts, res_parts, res_parts]
  iintro ⟨Ht, Hf, Hr⟩
  ihave Hfs := (Transfers.pointsTo_toks (f := m (ftrAt d)) fullShare 16).1 $$ Hf
  icases Hfs with ⟨Hdrop, Htoks⟩
  imodintro
  isplitl [Ht Htoks Hr]
  · isplitl [Ht]; · iexact Ht
    isplitl [Htoks]; · iexact Htoks
    iexact Hr
  iintro ⟨Ht, Htoks, Hr⟩
  isplitl [Ht]; · iexact Ht
  isplitl [Hdrop Htoks]
  · iapply (Transfers.pointsTo_toks (f := m (ftrAt d)) fullShare 16).2
    isplitl [Hdrop] <;> iassumption
  iexact Hr

end Cert.Proof.KI

end
-- ==== Proof.Numbers.lean ====
module

public import Idealize.ShloMosaic.Lib.Pipeline.ValueKit

@[expose] public section

/-! # Extended reals that are real numbers

The programs compute on extended reals. With finite features every value between the inputs and the loss is a real
number; these lemmas carry sums, quotients, roots and maxima over to the reals. -/

noncomputable section

namespace Cert.Proof

open Idealize.ShloMosaic

/-- A sum of real numbers, taken in the extended reals. -/
theorem sum_real {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A quotient of real numbers. -/
theorem div_real (a : ℝ) {b : ℝ} (hb : b ≠ 0) : Ideal.div (a : EReal) (b : EReal) = ((a / b : ℝ) : EReal) := by
  have : (b : EReal) ≠ 0 := by exact_mod_cast hb
  rw [Ideal.div, if_neg this, ← EReal.coe_inv, ← EReal.coe_mul, div_eq_mul_inv]

/-- A quotient by plus infinity is zero. -/
theorem div_infinity (a : EReal) : Ideal.div a ⊤ = 0 := by
  rw [Ideal.div, if_neg (by simp), EReal.inv_top, mul_zero]

/-- The greater of two real numbers. -/
theorem max_real (a b : ℝ) : max (a : EReal) (b : EReal) = ((max a b : ℝ) : EReal) := (EReal.coe_strictMono.monotone.map_max (a := a) (b := b)).symm

/-- A square of an extended real is not negative. -/
theorem sq_nonneg (x : EReal) : 0 ≤ x * x := by
  induction x with
  | bot => simp
  | top => simp
  | coe r => rw [← EReal.coe_mul]; exact_mod_cast mul_self_nonneg r

/-- The maximum of a nonempty family of real numbers, from minus infinity, is a real number. -/
theorem fold_max_real {ι : Type} (s : Finset ι) (f : ι → ℝ) (hs : s.Nonempty) :
    ∃ M : ℝ, s.fold max (⊥ : EReal) (fun i => (f i : EReal)) = (M : EReal) := by
  classical
  induction hs using Finset.Nonempty.cons_induction with
  | singleton a => exact ⟨f a, by simp⟩
  | cons a s ha hs ih =>
    obtain ⟨M, hM⟩ := ih
    exact ⟨max (f a) M, by rw [Finset.fold_cons, hM, max_real]⟩

/-- The smallest norm divided by, a positive real number. -/
theorem eps_real : ∃ e : ℝ, 0 < e ∧ Ideal.ofBits .f32 0x2B8CBCCC#32 = (e : EReal) := by
  refine ⟨9223372 * (2 : ℝ) ^ (-63 : ℤ), by positivity, ?_⟩
  simp [Ideal.ofBits, Ideal.ieee, -EReal.coe_mul]

/-- The temperature, the 32-bit float nearest 0.02. -/
theorem temp_real : Ideal.ofBits .f32 0x3CA3D70A#32 = ((5368709 / 268435456 : ℝ) : EReal) := by
  simp [Ideal.ofBits, Ideal.ieee, -EReal.coe_mul]; norm_num

/-- The size of the batch. -/
theorem batch_real : Ideal.ofBits .f32 0x44800000#32 = ((1024 : ℝ) : EReal) := by
  simp [Ideal.ofBits, Ideal.ieee, -EReal.coe_mul]; norm_num

/-- Plus infinity. -/
theorem plus_infinity : Ideal.ofBits .f32 0x7F800000#32 = ⊤ := by
  simp [Ideal.ofBits, Ideal.ieee]

/-- Minus infinity. -/
theorem minus_infinity : Ideal.ofBits .f32 0xFF800000#32 = ⊥ := by
  simp [Ideal.ofBits, Ideal.ieee]

/-- A row of an array divided by its norm, or by the smallest norm if that is greater, is a row of real numbers. It is
    all zeros if an entry of the row is infinite. A multiple of the row computed from the scaled reciprocal of
    the norm is the same multiple of the normalised row. -/
theorem unit_row {n : ℕ} (x : Fin n → EReal) :
    ∃ u : Fin n → ℝ, ∀ k,
      Ideal.div (x k) (max (Ideal.sqrt (∑ i, x i * x i)) (Ideal.ofBits .f32 0x2B8CBCCC#32)) = (u k : EReal)
      ∧ ∀ c : ℝ, x k * Ideal.div (c : EReal) (max (Ideal.sqrt (∑ i, x i * x i)) (Ideal.ofBits .f32 0x2B8CBCCC#32))
          = ((u k * c : ℝ) : EReal) := by
  obtain ⟨e, he, hE⟩ := eps_real
  rw [hE]
  by_cases hx : ∀ k, ∃ r : ℝ, x k = (r : EReal)
  · choose r hr using hx
    have hs : ∑ i, x i * x i = ((∑ i, r i * r i : ℝ) : EReal) := by
      rw [← sum_real]; exact Finset.sum_congr rfl fun i _ => by rw [hr, EReal.coe_mul]
    have h0 : ¬ (∑ i, r i * r i) < 0 := not_lt.2 (Finset.sum_nonneg fun i _ => mul_self_nonneg _)
    have hN : max (Real.sqrt (∑ i, r i * r i)) e ≠ 0 := (lt_of_lt_of_le he (le_max_right _ _)).ne'
    rw [hs, Ideal.sqrt_coe, if_neg h0, max_real]
    refine ⟨fun k => r k / max (Real.sqrt (∑ i, r i * r i)) e, fun k => ⟨?_, fun c => ?_⟩⟩
    · rw [hr, div_real _ hN]
    · rw [hr, div_real _ hN, ← EReal.coe_mul]; congr 1; ring
  · push Not at hx
    obtain ⟨k₀, hk⟩ := hx
    have htop : x k₀ * x k₀ = ⊤ := by
      generalize x k₀ = y at hk
      induction y with
      | bot => rfl
      | top => rfl
      | coe r => exact absurd rfl (hk r)
    have hs : ∑ i, x i * x i = ⊤ := top_le_iff.1 (htop ▸ Finset.single_le_sum (f := fun i => x i * x i)
      (fun i _ => sq_nonneg (x i)) (Finset.mem_univ k₀))
    rw [hs, Ideal.sqrt_top, max_eq_left le_top]
    exact ⟨fun _ => 0, fun k => ⟨by rw [div_infinity]; rfl, fun c => by rw [div_infinity, mul_zero, zero_mul]; rfl⟩⟩

/-- The loss of one row, both ways. With the scores `d` of a row, the reference shifts the scaled scores by any
    `M`, and takes the target's shifted score less the logarithm of the sum of the exponentials. The kernel takes powers of two
    of the scores scaled by the base-two logarithm of e as well. -/
theorem row_loss {n : ℕ} (d : Fin n → ℝ) (t : Fin n) (M s : ℝ) :
    (Real.log (∑ r, (2 : ℝ) ^ (d r * (s * (Real.log 2)⁻¹))) * (Real.log 2)⁻¹ - d t * (s * (Real.log 2)⁻¹)) * Real.log 2
      = -(d t * s - M - Real.log (∑ r, Real.exp (d r * s - M))) := by
  have h2 : Real.log 2 ≠ 0 := (Real.log_pos one_lt_two).ne'
  have hp : ∀ r, (2 : ℝ) ^ (d r * (s * (Real.log 2)⁻¹)) = Real.exp (d r * s - M) * Real.exp M := fun r => by
    rw [Real.rpow_def_of_pos two_pos, ← Real.exp_add]; congr 1; field_simp; ring
  have hpos : (∑ r, Real.exp (d r * s - M)) ≠ 0 :=
    (Finset.sum_pos (fun r _ => Real.exp_pos _) ⟨t, Finset.mem_univ t⟩).ne'
  rw [Finset.sum_congr rfl fun r _ => hp r, ← Finset.sum_mul, Real.log_mul hpos (Real.exp_ne_zero M), Real.log_exp]
  generalize Real.log (∑ r, Real.exp (d r * s - M)) = g
  field_simp; ring

end Cert.Proof

end
-- ==== Proof.Pre.lean ====
module

public import proofs.«01_k».proof.Proof.Gen.Pre_in_range
public import proofs.«01_k».proof.Proof.Gen.Pre_features_finite_in_range
public import proofs.«01_k».proof.Defs
public import proofs.«01_k».proof.Proof.KI.Tile
public import proofs.«01_k».proof.Proof.Kn.Tile
public import proofs.«01_k».proof.Proof.Numbers
public import Idealize.ShloMosaic.Lib.ReduceAll
public import Idealize.ShloMosaic.Lib.Affine

@[expose] public section

/-! # What the stated preconditions give

Both preconditions are printed as one truth value: a conjunction over all elements. Here each is read back at one
element: every target is a row number of the memory bank, and every feature is finite. -/

noncomputable section

namespace Cert.Proof

open Idealize.ShloMosaic Idealize.SL.Sem

/-- A signed word at least 0 and less than 100000 is, as a natural number, less than 100000. -/
theorem lt_of_bounds {w : BitVec 32} (h0 : IntOp.cmpi .sge w 0#32 = 1#1) (h1 : IntOp.cmpi .slt w 100000#32 = 1#1) :
    w.toNat < 100000 := by
  have l := IntOp.cmpi_sge.mp h0
  have u := IntOp.cmpi_slt.mp h1
  have z : (0#32).toInt = 0 := by decide
  have b : (100000#32).toInt = 100000 := by decide
  have := w.isLt
  rw [z] at l; rw [b] at u
  rw [BitVec.toInt_eq_toNat_cond] at l u
  split at l <;> split at u <;> omega

/-- The two halves of a truth value that is a conjunction. -/
theorem both {a b : BitVec 1} (h : IntOp.andi a b = 1#1) : a = 1#1 ∧ b = 1#1 := by
  revert a b; decide

/-- The bound on the targets, from the first precondition, at one target. -/
theorem target_lt {F : FTy → Type} [FloatOps F]
    (a0 a1 : FVec F Cert.Pre_in_range.S1024x128 .f32) (t : IVec Cert.Pre_in_range.S1024 32)
    (f : FVec F Cert.Pre_in_range.S100000x128 .f32)
    (h : Cert.Pre_in_range.fn a0 a1 t f = fun _ => 1#1)
    (j : Cert.Pre_in_range.S1024.Idx) : (t j).toNat < 100000 := by
  have e := congrFun h (fun a => Fin.elim0 a)
  dsimp only [Cert.Pre_in_range.fn] at e
  have ej := Host.reduce_andi_all _ _ _ _ _ e j
  obtain ⟨h0, h1⟩ := both ej
  exact lt_of_bounds h0 h1

/-- The bound on the targets, from the second precondition, at one target. -/
theorem target_lt' {F : FTy → Type} [FloatOps F]
    (a0 a1 : FVec F Cert.Pre_features_finite_in_range.S1024x128 .f32) (t : IVec Cert.Pre_features_finite_in_range.S1024 32)
    (f : FVec F Cert.Pre_features_finite_in_range.S100000x128 .f32)
    (h : Cert.Pre_features_finite_in_range.fn a0 a1 t f = fun _ => 1#1)
    (j : Cert.Pre_features_finite_in_range.S1024.Idx) : (t j).toNat < 100000 := by
  have e := congrFun h (fun a => Fin.elim0 a)
  dsimp only [Cert.Pre_features_finite_in_range.fn] at e
  have ej := Host.reduce_andi_all _ _ _ _ _ (both e).2 j
  obtain ⟨h0, h1⟩ := both ej
  exact lt_of_bounds h0 h1

/-- An extended real whose absolute value is less than the infinity of 32-bit floats is a real number. -/
theorem real_of_abs_lt {x : EReal} (h : max x (-x) < ⊤) : x ≠ ⊤ ∧ x ≠ ⊥ := by
  refine ⟨?_, ?_⟩ <;> rintro rfl <;> simp at h

/-- Every feature is finite, from the second precondition. -/
theorem feature_finite
    (a0 a1 : FVec Ideal Cert.Pre_features_finite_in_range.S1024x128 .f32) (t : IVec Cert.Pre_features_finite_in_range.S1024 32)
    (f : FVec Ideal Cert.Pre_features_finite_in_range.S100000x128 .f32)
    (h : Cert.Pre_features_finite_in_range.fn a0 a1 t f = fun _ => 1#1)
    (j : Cert.Pre_features_finite_in_range.S100000x128.Idx) : (f j : EReal) ≠ ⊤ ∧ (f j : EReal) ≠ ⊥ := by
  have e := congrFun h (fun a => Fin.elim0 a)
  dsimp only [Cert.Pre_features_finite_in_range.fn] at e
  have ej := Host.reduce_andi_all _ _ _ _ _ (both e).1 j
  have el : Ideal.cmp .olt (max (f j : EReal) (-(f j : EReal))) (Ideal.ofBits .f32 0x7F800000#32) = 1#1 := ej
  rw [plus_infinity, Ideal.cmp] at el
  exact real_of_abs_lt (by
    by_contra hn
    simp only [hn, decide_false] at el
    exact absurd el (by decide))

end Cert.Proof

end
-- ==== Proof.KI.Bodies.lean ====
/-
  The three TensorCore kernels' bodies, run: what each leaves in its result's staging buffer (and, for the streaming
  kernel, in its accumulator) as a function of what its input blocks hold.
-/
module

public import proofs.«01_k».proof.Proof.KI.Setup

@[expose] public section

noncomputable section

namespace Cert.Proof.KI

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

theorem z2 : (![0, 0] : Fin 2 → Nat) = fun _ => 0 := funext fun a => by fin_cases a <;> rfl

/-- A buffer that a list of stores covers holds what the list spells. -/
theorem rep_of_writes {sp : Space} {S : Shape} {e : EltTy} (c : Thread nD τ) (M : Memref sig c.2.kind sp S e) {X : S.Idx → Elt F e}
    (L : List (View.Piece (Elt F) S e)) (h : View.canon L = X) :
    (M.view.loc c ↦[M.view.set]{fullShare} M.view.writes (Elt F) M.view.junk L : sProp 𝕄) ⊢ M.view.loc c ↦[M.view.set]{fullShare} M.view.rep X := by
  rw [← owns_eq_rep]; unfold owns
  iintro H
  iexists _
  isplitr; swap; · iexact H
  ipureintro
  rw [View.read_writes_junk_eq_canon, h]

/-- The first kernel leaves its input as it was and in its result the input's rows, scaled. -/
theorem prep_run (c : Dev nD) (M0 : Memref sig .tc .vmem S1024x128 .f32) (h0 : M0.IsWhole) (M1 : Memref sig .tc .vmem S1024x128 .f32) (h1 : M1.IsWhole)
    (X d : Vec F S1024x128 .f32) (E : Set ℕ) (Q : PUnit → sProp 𝕄) :
    iprop(owns (c : Thread nD τ) M0 fullShare X ∗ owns (c : Thread nD τ) M1 fullShare d
        ∗ (iprop(owns (c : Thread nD τ) M0 fullShare X ∗ owns (c : Thread nD τ) M1 fullShare (k0_pay1 X)) -∗ Q ⟨⟩))
      ⊢ wp frame (wpE (defs₀ (F := F)) 𝒱₀ (c : Thread nD τ) none) E (cc0__prep_body M0 h0 M1 h1) Q := by
  rw [cc0__prep_body_eq_skeleton]; unfold cc0__prep_body_skel
  simp only [owns_eq_rep]
  iintro ⟨H0, H1, Hk⟩
  sl_exec!
  sl_step
  iapply Hk
  isplitl [H0]; · iexact H0
  iapply (rep_of_writes (c : Thread nD τ) M1 _ ?_) $$ H1
  sl_unfold_words
  rw [View.canon_unit_zero (S := S1024x128) z2, View.readAt_rep_full]

/-- The last kernel leaves its three inputs as they were and in its result the loss computed from them. -/
theorem combine_run (c : Dev nD) (M0 : Memref sig .tc .vmem S1024x128 .f32) (h0 : M0.IsWhole) (M1 : Memref sig .tc .vmem S1024x128 .f32) (h1 : M1.IsWhole)
    (M2 : Memref sig .tc .vmem S1024x1 .f32) (h2 : M2.IsWhole) (M3 : Memref sig .tc .vmem S1x1 .f32) (h3 : M3.IsWhole)
    (X G : Vec F S1024x128 .f32) (A : Vec F S1024x1 .f32) (d : Vec F S1x1 .f32) (E : Set ℕ) (Q : PUnit → sProp 𝕄) :
    iprop(owns (c : Thread nD τ) M0 fullShare X ∗ owns (c : Thread nD τ) M1 fullShare G ∗ owns (c : Thread nD τ) M2 fullShare A
        ∗ owns (c : Thread nD τ) M3 fullShare d
        ∗ (iprop(owns (c : Thread nD τ) M0 fullShare X ∗ owns (c : Thread nD τ) M1 fullShare G ∗ owns (c : Thread nD τ) M2 fullShare A
            ∗ owns (c : Thread nD τ) M3 fullShare (k3_pay1 X G A)) -∗ Q ⟨⟩))
      ⊢ wp frame (wpE (defs₀ (F := F)) 𝒱₀ (c : Thread nD τ) none) E (cc3__combine_body M0 h0 M1 h1 M2 h2 M3 h3) Q := by
  rw [cc3__combine_body_eq_skeleton]; unfold cc3__combine_body_skel
  simp only [owns_eq_rep]
  iintro ⟨H0, H1, H2, H3, Hk⟩
  sl_exec!
  sl_step
  iapply Hk
  isplitl [H0]; · iexact H0
  isplitl [H1]; · iexact H1
  isplitl [H2]; · iexact H2
  iapply (rep_of_writes (c : Thread nD τ) M3 _ ?_) $$ H3
  sl_unfold_words
  rw [View.canon_unit_zero (S := S1x1) z2]
  congr 1 <;> exact View.readAt_rep_full _ _ _

/-! ## The streaming kernel -/

/-- A load of the whole of a buffer reads what the buffer holds: the image block's, -/
theorem rd_img (M : Memref sig .tc .vmem S1024x128 .f32) (X : Vec F S1024x128 .f32) (h : _) :
    View.readAt (Elt F) M.view (Rect.unit (s := S1024x128) ![0, 0] ![1024, 128] h).toLoadRect (M.view.rep X) = X :=
  View.readAt_rep_full _ _ _
/-- a feature block's, -/
theorem rd_blk (M : Memref sig .tc .vmem S4000x128 .f32) (X : Vec F S4000x128 .f32) (h : _) :
    View.readAt (Elt F) M.view (Rect.unit (s := S4000x128) ![0, 0] ![4000, 128] h).toLoadRect (M.view.rep X) = X :=
  View.readAt_rep_full _ _ _
/-- the accumulator's. -/
theorem rd_acc (M : Memref sig .tc .vmem S1024x1 .f32) (X : Vec F S1024x1 .f32) (h : _) :
    View.readAt (Elt F) M.view (Rect.unit (s := S1024x1) ![0, 0] ![1024, 1] h).toLoadRect (M.view.rep X) = X :=
  View.readAt_rep_full _ _ _

/-- The streaming kernel's first test: is this the first grid point? -/
def first (i : grid1.Coords) : BitVec 1 := Scalar.cmpi .ne (Scalar.extui (Scalar.cmpi .eq (BitVec.ofNat 32 (i 0).val) 0#32) : BitVec 32) 0#32

/-- One grid point's step of the accumulator: to `A` is added, row by row, what the five blocks contribute. -/
def accStep (X : Vec F S1024x128 .f32) (B : Fin 5 → Vec F S4000x128 .f32) (A : Vec F S1024x1 .f32) : Vec F S1024x1 .f32 :=
  k1_pay1 (k1_pay4 X (B 0) (B 1) (B 2) (B 3)) (k1_pay5 X (B 4)) A

section Stream

variable (c : Dev nD) (i : grid1.Coords)
  (M0 : Memref sig .tc .vmem S1024x128 .f32) (h0 : M0.IsWhole) (M1 : Memref sig .tc .vmem S4000x128 .f32) (h1 : M1.IsWhole)
  (M2 : Memref sig .tc .vmem S4000x128 .f32) (h2 : M2.IsWhole) (M3 : Memref sig .tc .vmem S4000x128 .f32) (h3 : M3.IsWhole)
  (M4 : Memref sig .tc .vmem S4000x128 .f32) (h4 : M4.IsWhole) (M5 : Memref sig .tc .vmem S4000x128 .f32) (h5 : M5.IsWhole)
  (M6 : Memref sig .tc .vmem S1024x1 .f32) (h6 : M6.IsWhole) (M7 : Memref sig .tc .vmem S1024x1 .f32) (h7 : M7.IsWhole)
  (X : Vec F S1024x128 .f32) (B : Fin 5 → Vec F S4000x128 .f32) (d A : Vec F S1024x1 .f32)

/-- What the streaming kernel holds at a point: its input, the five blocks, its result's buffer at `d`, its
    accumulator at `A`. -/
abbrev held : sProp 𝕄 :=
  iprop(owns (c : Thread nD τ) M0 fullShare X ∗ owns (c : Thread nD τ) M1 fullShare (B 0) ∗ owns (c : Thread nD τ) M2 fullShare (B 1)
    ∗ owns (c : Thread nD τ) M3 fullShare (B 2) ∗ owns (c : Thread nD τ) M4 fullShare (B 3) ∗ owns (c : Thread nD τ) M5 fullShare (B 4)
    ∗ owns (c : Thread nD τ) M6 fullShare d ∗ owns (c : Thread nD τ) M7 fullShare A)

/-- At the first point the accumulator starts from zero; the result's buffer is not written. -/
theorem stream_first (hf : first i = 1#1) (hl : ¬ k1_cond2 i = 1#1) (E : Set ℕ) (Q : PUnit → sProp 𝕄) :
    iprop(held c M0 M1 M2 M3 M4 M5 M6 M7 X B d A ∗ (held c M0 M1 M2 M3 M4 M5 M6 M7 X B d (accStep X B (k1_pay2 (F := F))) -∗ Q ⟨⟩))
      ⊢ wp frame (wpE (defs₀ (F := F)) 𝒱₀ (c : Thread nD τ) none) E
          (cc1__stream_body i M0 h0 M1 h1 M2 h2 M3 h3 M4 h4 M5 h5 M6 h6 M7 h7) Q := by
  rw [cc1__stream_body_eq_skeleton]; unfold cc1__stream_body_skel
  rw [k1_part1_eq_skeleton]; unfold k1_part1_skel
  unfold first at hf
  simp only [held, owns_eq_rep]
  iintro ⟨⟨H0, H1, H2, H3, H4, H5, H6, H7⟩, Hk⟩
  sl_exec!
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  iapply (rep_of_writes (c : Thread nD τ) M7 _ ?_) $$ H7
  sl_unfold_words
  simp only [rd_img, rd_blk, rd_acc, View.readCov_unit_zero (S := S1024x1) _ z2]
  exact View.canon_cons_unit_zero (S := S1024x1) z2 _ _ _

/-- At a point between the ends the accumulator takes one step; the result's buffer is not written. -/
theorem stream_mid (hf : ¬ first i = 1#1) (hl : ¬ k1_cond2 i = 1#1) (E : Set ℕ) (Q : PUnit → sProp 𝕄) :
    iprop(held c M0 M1 M2 M3 M4 M5 M6 M7 X B d A ∗ (held c M0 M1 M2 M3 M4 M5 M6 M7 X B d (accStep X B A) -∗ Q ⟨⟩))
      ⊢ wp frame (wpE (defs₀ (F := F)) 𝒱₀ (c : Thread nD τ) none) E
          (cc1__stream_body i M0 h0 M1 h1 M2 h2 M3 h3 M4 h4 M5 h5 M6 h6 M7 h7) Q := by
  rw [cc1__stream_body_eq_skeleton]; unfold cc1__stream_body_skel
  rw [k1_part1_eq_skeleton]; unfold k1_part1_skel
  unfold first at hf
  simp only [held, owns_eq_rep]
  iintro ⟨⟨H0, H1, H2, H3, H4, H5, H6, H7⟩, Hk⟩
  sl_exec!
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  iapply (rep_of_writes (c : Thread nD τ) M7 _ ?_) $$ H7
  sl_unfold_words
  simp only [rd_img, rd_blk, rd_acc, View.readCov_unit_zero (S := S1024x1) _ z2]
  exact View.canon_cons_unit_zero (S := S1024x1) z2 _ _ _

/-- At the last point the accumulator takes its last step and is copied to the result's buffer. -/
theorem stream_last (hf : ¬ first i = 1#1) (hl : k1_cond2 i = 1#1) (E : Set ℕ) (Q : PUnit → sProp 𝕄) :
    iprop(held c M0 M1 M2 M3 M4 M5 M6 M7 X B d A ∗ (held c M0 M1 M2 M3 M4 M5 M6 M7 X B (accStep X B A) (accStep X B A) -∗ Q ⟨⟩))
      ⊢ wp frame (wpE (defs₀ (F := F)) 𝒱₀ (c : Thread nD τ) none) E
          (cc1__stream_body i M0 h0 M1 h1 M2 h2 M3 h3 M4 h4 M5 h5 M6 h6 M7 h7) Q := by
  rw [cc1__stream_body_eq_skeleton]; unfold cc1__stream_body_skel
  rw [k1_part1_eq_skeleton]; unfold k1_part1_skel
  unfold first at hf
  simp only [held, owns_eq_rep]
  iintro ⟨⟨H0, H1, H2, H3, H4, H5, H6, H7⟩, Hk⟩
  sl_exec!
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]
  · iapply (rep_of_writes (c : Thread nD τ) M6 _ ?_) $$ H6
    sl_unfold_words
    simp only [rd_img, rd_blk, rd_acc, View.readCov_unit_zero (S := S1024x1) _ z2]
    exact View.canon_cons_unit_zero (S := S1024x1) z2 _ _ _
  iapply (rep_of_writes (c : Thread nD τ) M7 _ ?_) $$ H7
  sl_unfold_words
  simp only [rd_img, rd_blk, rd_acc, View.readCov_unit_zero (S := S1024x1) _ z2]
  exact View.canon_cons_unit_zero (S := S1024x1) z2 _ _ _

end Stream

end Cert.Proof.KI

end
-- ==== Proof.KI.Region0.lean ====
module
public import proofs.«01_k».proof.Proof.KI.Bodies

@[expose] public section

noncomputable section

namespace Cert.Proof.KI

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F] [Named F]

local notation "𝕄" => MT nD τ sig (HIx 1) (Elt F) ℕ UU ℕ

/-! ## What the TensorCore owes while a pipeline runs -/

/-- A core's buffers' contents. -/
abbrev Vals : Type := (c : Dev nD) → (b : Ref sig .tc) → Buf (Elt F) ((c : Thread nD τ).loc b)

/-- What the TensorCore owes the SparseCore between two of its own waits: the tallies, and that its waits so far lie at or below a level. -/
def owing (c : Dev nD) (O : CellTallies nD τ sig (HIx 1)) (b : ℕ) : sProp 𝕄 :=
  iprop(∃ W, ⌜(K (F := F)).WBelow (T c) W b⌝ ∗ owes (T c) O W)

/-- The waits at or below a level, as a pipeline's data bounds them. -/
def within (c : Dev nD) (b : ℕ) : Set (SemLoc sig × HIx 1) := {p | (K (F := F)).lev (T c, p.1) p.2 ≤ b}

/-- Proof data for the pipelines that an entry does not run. -/
def noDat {cfg : Pipeline.Cfg sig Λ₀} (c : Dev nD) : Dat τ (Elt F) (HIx 1) ℕ UU ℕ cfg c where
  A _ := fun _ => Classical.arbitrary _
  after _ _ := fun _ => Classical.arbitrary _
  Φ _ := BI.emp
  q _ := fullShare
  owed _ := 0

/-- What is owed enters a pipeline whose data names the same tallies and level … -/
theorem owing_in {cfg : Pipeline.Cfg sig Λ₀} (c : Dev nD) (dat : Dat τ (Elt F) (HIx 1) ℕ UU ℕ cfg c) (O : CellTallies nD τ sig (HIx 1)) (b : ℕ)
    (t : Fin (cfg.N + 1)) (ho : dat.owed t = O) (hr : dat.recorded t = within (F := F) c b) :
    owing c O b ⊢ dat.owesAt none t := by
  unfold owing Dat.owesAt Pipeline.owesWithin
  rw [ho]
  iintro ⟨%W, %h, HO⟩
  iexists W
  isplitr
  · ipureintro
    intro p hp
    refine Or.inl ?_
    rw [hr]
    exact h p hp
  · iexact HO

/-- … and leaves it, a pipeline's own waits being at the lowest level. -/
theorem owing_out {cfg : Pipeline.Cfg sig Λ₀} (c : Dev nD) (dat : Dat τ (Elt F) (HIx 1) ℕ UU ℕ cfg c) (O : CellTallies nD τ sig (HIx 1)) (b : ℕ)
    (t : Fin (cfg.N + 1)) (ho : dat.owed t = O) (hr : dat.recorded t = within (F := F) c b) :
    dat.owesAt none t ⊢ owing c O b := by
  unfold owing Dat.owesAt Pipeline.owesWithin
  rw [ho]
  iintro ⟨%W, %h, HO⟩
  iexists W
  isplitr
  · ipureintro
    intro p hp
    rcases h hp with h | ⟨w, s, h⟩
    · rw [hr] at h
      exact h
    · rw [h]
      exact Nat.zero_le _
  · iexact HO

/-! ## The first pipeline: the images scaled -/

variable (X₀ : Vals (F := F)) (O : CellTallies nD τ sig (HIx 1)) (b : ℕ)

/-- The images as the pipeline brings them in. -/
abbrev imgs0 (c : Dev nD) : Vec F S1024x128 .f32 := ((cfg0.win 0).blk t0_0).view.read (Elt F) (X₀ c main_arg0)

/-- The scoped buffers that the pipeline does not stage, at any contents. -/
abbrev rest0 (c : Dev nD) : sProp 𝕄 := Pipeline.scopedRest (Ix := HIx 1) (Name := ℕ) (U := UU) (Lvl := ℕ) (Val := Elt F) spec0 c

/-- The pipeline's data at an entry's contents. -/
def dat0 (c : Dev nD) : Dat τ (Elt F) (HIx 1) ℕ UU ℕ cfg0 c where
  A w := X₀ c (Pipeline.arrRef spec0 w)
  after w _ := match w with
    | ⟨0, _⟩ => imgs0 X₀ c
    | ⟨1, _⟩ => k0_pay1 (imgs0 X₀ c)
  Φ _ := rest0 c
  q _ := fullShare
  owed _ := O
  recorded _ := within (F := F) c b

def fam0 : (p : Fin 3) → (c : Dev nD) → Dat τ (Elt F) (HIx 1) ℕ UU ℕ (Pipeline.pin (pcfgs (F := F)) adm p) c
  | ⟨0, _⟩ => fun c => dat0 X₀ O b c
  | ⟨1, _⟩ => fun c => noDat c
  | ⟨2, _⟩ => fun c => noDat c

theorem before0 (c : Dev nD) (d : (cfg0.win 0).block.Idx → Elt F (cfg0.win 0).elt) : (dat0 X₀ O b c).before 0 t0_0 d = imgs0 X₀ c := by
  unfold Dat.before; rw [if_pos (by decide)]; rfl

theorem body0 (c : Dev nD) : BodyObligation (dat0 X₀ O b c) (defs₀ (F := F)) 𝒱₀ none Set.univ := fun t => by
  obtain rfl := fin_N0 t
  rw [bigSep_W0, bigSep_W0]
  rw [show (dat0 X₀ O b c).Φ t0_0.castSucc = rest0 c from rfl, show (dat0 X₀ O b c).Φ t0_0.succ = rest0 c from rfl,
    show (dat0 X₀ O b c).owesAt none t0_0.succ = (dat0 X₀ O b c).owesAt none t0_0.castSucc from rfl]
  iintro ⟨HΦ, Howes, ⟨%d0, H0⟩, ⟨%d1, H1⟩⟩
  rw [before0]
  iapply (prep_run c _ (hstage0_0 0) _ (hstage0_1 0) (imgs0 X₀ c) _ Set.univ _)
  isplitl [H0]; · iexact H0
  isplitl [H1]; · iexact H1
  iintro ⟨H0, H1⟩
  isplitl [HΦ]; · iexact HΦ
  isplitl [Howes]; · iexact Howes
  isplitl [H0]
  · iexact H0
  · iexact H1

theorem imgs0_eq (c : Dev nD) : imgs0 X₀ c = X₀ c main_arg0 := by
  exact Memref.read_access_unit_zero (Elt F) main_arg0 (by decide) _ _

/-- The pipeline's result: the images scaled. -/
theorem out0 (c : Dev nD) : (dat0 X₀ O b c).arrAt 1 cfg0.N = k0_pay1 (X₀ c main_arg0) := by
  refine (dat0 X₀ O b c).arrAt_eq_of_after_last 1 t0_0 (by decide +kernel) _ fun j => ?_
  rw [← imgs0_eq X₀ c]
  rfl

/-! ## The pipeline over the buffers -/

variable (X₁ : Vals (F := F))

-- the two lemmas on the arrays are stated at the pinned configuration, which unification has to unfold
set_option backward.isDefEq.respectTransparency.types false in
/-- The first pipeline over the buffers of @main: entered at one set of contents, left at another that differs from it in the scaled images. -/
def reg0 (hO : ∀ g, O g none = 0) (hout : ∀ c, X₁ c main_v0 = k0_pay1 (X₀ c main_arg0)) (hne : ∀ c (r : Ref sig .tc), r ≠ main_v0 → X₁ c r = X₀ c r) :
    Pipeline.RegionSeg (pcfgs (F := F)) adm (fam0 X₀ O b) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body0 X₀ O b c).loose
  hwaits c := Pipeline.cellsWaits_intro (Pipeline.pin (pcfgs (F := F)) adm) (fam0 X₀ O b) none 0 c fun w s t => (K (F := F)).mayWait_none _ hO
  pre c := iprop(unscopedBufs c (X₀ c) ∗ owing c O b)
  post c := iprop(unscopedBufs c (X₁ c) ∗ owing c O b)
  X _ := BI.emp
  Y _ := BI.emp
  Z c := Pipeline.unscopedRest (Ix := HIx 1) (Name := ℕ) (U := UU) (Lvl := ℕ) spec0 c (X₀ c)
  hentry c := by
    rw [Pipeline.ownSems0_none]
    have hsplit := Pipeline.arrays_of_unscopedBufs (p := 0) (pcfgs (F := F)) adm (fam0 X₀ O b) launch0.win launch0.arr_whole c
      ((fam0 X₀ O b 0 c).share_full fun _ => rfl) (X₀ c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owing_in c (fam0 X₀ O b 0 c) O b 0 rfl rfl); iexact HO
    isplitr; · iempintro
    iexact Hrest
  hin c := by
    rw [show (fam0 X₀ O b 0 c).Φ 0 = rest0 c from rfl]
    iintro ⟨-, -, Hr⟩; iexact Hr
  hout c := by
    rw [Pipeline.ownSems0_none, show (fam0 X₀ O b 0 c).Φ (Fin.last _) = rest0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch0.win launch0.arr_whole c
      (fam0 X₀ O b) ((fam0 X₀ O b 0 c).share_full fun _ => rfl) (X₀ c) (X₁ c) ((fam0 X₀ O b 0 c).arrAt · cfg0.N)
      (fun w => by
        fin_cases w
        · exact ((fam0 X₀ O b 0 c).arrAt_in 0 rfl _).trans (hne c main_arg0 (by decide)).symm
        · exact (out0 X₀ O b c).trans (hout c).symm)
      (fun r hr => hne c r fun h => hr (h ▸ Finset.mem_image.mpr ⟨1, Finset.mem_univ _, rfl⟩))
    iintro ⟨Ha, HO, -, Hrest⟩
    imodintro
    isplitl [Ha Hrest]
    · iapply hjoin; isplitl [Ha] <;> iassumption
    iapply (owing_out c (fam0 X₀ O b 0 c) O b (Fin.last _) rfl rfl); iexact HO

end Cert.Proof.KI

end
-- ==== Proof.KI.Region1.lean ====
module
public import proofs.«01_k».proof.Proof.KI.Region0

@[expose] public section

noncomputable section

namespace Cert.Proof.KI

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F] [Named F]

local notation "𝕄" => MT nD τ sig (HIx 1) (Elt F) ℕ UU ℕ

/-! ## The second pipeline: the powers of the scaled dot products summed -/

variable (X₀ : Vals (F := F)) (O : CellTallies nD τ sig (HIx 1)) (b : ℕ)

/-- The scaled images as the pipeline brings them in. -/
abbrev imgs1 (c : Dev nD) : Vec F S1024x128 .f32 := ((cfg1.win 0).blk t1_0).view.read (Elt F) (X₀ c main_v0)

/-- The five blocks of the features that it brings in at a point. -/
def blks1 (c : Dev nD) (t : Fin cfg1.N) : Fin 5 → Vec F S4000x128 .f32
  | ⟨0, _⟩ => ((cfg1.win 1).blk t).view.read (Elt F) (X₀ c main_arg3)
  | ⟨1, _⟩ => ((cfg1.win 2).blk t).view.read (Elt F) (X₀ c main_arg3)
  | ⟨2, _⟩ => ((cfg1.win 3).blk t).view.read (Elt F) (X₀ c main_arg3)
  | ⟨3, _⟩ => ((cfg1.win 4).blk t).view.read (Elt F) (X₀ c main_arg3)
  | ⟨4, _⟩ => ((cfg1.win 5).blk t).view.read (Elt F) (X₀ c main_arg3)

/-- The accumulator after so many points. -/
def acc1 (c : Dev nD) : ℕ → Vec F S1024x1 .f32
  | 0 => k1_pay2
  | n + 1 => if h : n < 5 then accStep (imgs1 X₀ c) (blks1 X₀ c ⟨n, h.trans_eq N_1.symm⟩) (acc1 c n) else acc1 c n

/-- The other kernels' scoped buffers, at any contents. -/
def oth1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc3_stg0_0), ((c : Thread nD τ).loc cc3_stg0_0) ↦{fullShare} f)
    ∗ (∃ f : Buf (Elt F) ((c : Thread nD τ).loc cc3_stg1_0), ((c : Thread nD τ).loc cc3_stg1_0) ↦{fullShare} f)
    ∗ (∃ f : Buf (Elt F) ((c : Thread nD τ).loc cc3_stg2_0), ((c : Thread nD τ).loc cc3_stg2_0) ↦{fullShare} f)
    ∗ (∃ f : Buf (Elt F) ((c : Thread nD τ).loc cc3_stg3_0), ((c : Thread nD τ).loc cc3_stg3_0) ↦{fullShare} f))

/-- Between two points: the accumulator, after the first point at the sums so far, beside the other kernels' buffers. -/
def inv1 (c : Dev nD) (n : ℕ) : sProp 𝕄 :=
  iprop(∃ A : Vec F S1024x1 .f32, ⌜n ≠ 0 → A = acc1 X₀ c n⌝ ∗ owns (c : Thread nD τ) (Memref.whole cc1_scratch0) fullShare A ∗ oth1 c)

/-- The pipeline's data at an entry's contents. -/
def dat1 (c : Dev nD) : Dat τ (Elt F) (HIx 1) ℕ UU ℕ cfg1 c where
  A w := X₀ c (Pipeline.arrRef spec1 w)
  after w t := match w with
    | ⟨0, _⟩ => imgs1 X₀ c
    | ⟨1, _⟩ => blks1 X₀ c t 0
    | ⟨2, _⟩ => blks1 X₀ c t 1
    | ⟨3, _⟩ => blks1 X₀ c t 2
    | ⟨4, _⟩ => blks1 X₀ c t 3
    | ⟨5, _⟩ => blks1 X₀ c t 4
    | ⟨6, _⟩ => acc1 X₀ c (t.val + 1)
  Φ t := inv1 X₀ c t.val
  q := Pipeline.shareOf spec1
  owed _ := O
  recorded _ := within (F := F) c b

def fam1 : (p : Fin 3) → (c : Dev nD) → Dat τ (Elt F) (HIx 1) ℕ UU ℕ (Pipeline.pin (pcfgs (F := F)) adm p) c
  | ⟨0, _⟩ => fun c => noDat c
  | ⟨1, _⟩ => fun c => dat1 X₀ O b c
  | ⟨2, _⟩ => fun c => noDat c

theorem before1_0 (c : Dev nD) (t : Fin cfg1.N) (d : (cfg1.win 0).block.Idx → Elt F (cfg1.win 0).elt) : (dat1 X₀ O b c).before 0 t d = imgs1 X₀ c := by
  rw [(dat1 X₀ O b c).before_in_eq_fetched 0 rfl (fun _ => rfl) (fun _ _ _ => rfl)
    (fun t => by rcases fin_N1 t with rfl | rfl | rfl | rfl | rfl <;> rfl) t d]
  rcases fin_N1 t with rfl | rfl | rfl | rfl | rfl <;> rfl
theorem before1_1 (c : Dev nD) (t : Fin cfg1.N) (d : (cfg1.win 1).block.Idx → Elt F (cfg1.win 1).elt) : (dat1 X₀ O b c).before 1 t d = blks1 X₀ c t 0 := by
  unfold Dat.before; rw [if_pos (fetch1_1 t)]
  rcases fin_N1 t with rfl | rfl | rfl | rfl | rfl <;> rfl
theorem before1_2 (c : Dev nD) (t : Fin cfg1.N) (d : (cfg1.win 2).block.Idx → Elt F (cfg1.win 2).elt) : (dat1 X₀ O b c).before 2 t d = blks1 X₀ c t 1 := by
  unfold Dat.before; rw [if_pos (fetch1_2 t)]
  rcases fin_N1 t with rfl | rfl | rfl | rfl | rfl <;> rfl
theorem before1_3 (c : Dev nD) (t : Fin cfg1.N) (d : (cfg1.win 3).block.Idx → Elt F (cfg1.win 3).elt) : (dat1 X₀ O b c).before 3 t d = blks1 X₀ c t 2 := by
  unfold Dat.before; rw [if_pos (fetch1_3 t)]
  rcases fin_N1 t with rfl | rfl | rfl | rfl | rfl <;> rfl
theorem before1_4 (c : Dev nD) (t : Fin cfg1.N) (d : (cfg1.win 4).block.Idx → Elt F (cfg1.win 4).elt) : (dat1 X₀ O b c).before 4 t d = blks1 X₀ c t 3 := by
  unfold Dat.before; rw [if_pos (fetch1_4 t)]
  rcases fin_N1 t with rfl | rfl | rfl | rfl | rfl <;> rfl
theorem before1_5 (c : Dev nD) (t : Fin cfg1.N) (d : (cfg1.win 5).block.Idx → Elt F (cfg1.win 5).elt) : (dat1 X₀ O b c).before 5 t d = blks1 X₀ c t 4 := by
  unfold Dat.before; rw [if_pos (fetch1_5 t)]
  rcases fin_N1 t with rfl | rfl | rfl | rfl | rfl <;> rfl

theorem acc1_succ (c : Dev nD) (t : Fin cfg1.N) : acc1 X₀ c (t.val + 1) = accStep (imgs1 X₀ c) (blks1 X₀ c t) (acc1 X₀ c t.val) := by
  have h : t.val < 5 := t.isLt.trans_eq N_1
  rw [acc1, dif_pos h]

theorem first_0 : first (grid1.coords t1_0) = 1#1 := by decide
theorem first_n (t : Fin grid1.N) (h : t ≠ t1_0) : ¬ first (grid1.coords t) = 1#1 := by
  rcases fin_N1 t with rfl | rfl | rfl | rfl | rfl
  · exact absurd rfl h
  all_goals decide
theorem last_4 : k1_cond2 (grid1.coords t1_4) = 1#1 := by decide
theorem last_n (t : Fin grid1.N) (h : t ≠ t1_4) : ¬ k1_cond2 (grid1.coords t) = 1#1 := by
  rcases fin_N1 t with rfl | rfl | rfl | rfl | rfl
  pick_goal 5
  · exact absurd rfl h
  all_goals decide

theorem idle1_n (t : Fin cfg1.N) (h : t ≠ t1_4) : cfg1.idle 6 (cfg1.grid.coords t) = true := by
  show idle1 6 (grid1.coords t) = true
  have := last_n t h
  simp [idle1, this]
theorem idle1_4 : cfg1.idle 6 (cfg1.grid.coords t1_4) = false := by
  show idle1 6 (grid1.coords t1_4) = false
  simp [idle1, last_4]
theorem flush1_n (t : Fin cfg1.N) (h : t ≠ t1_4) : (cfg1.win 6).flush t = false := by
  rw [Bool.eq_false_iff, ne_eq, flush1_6]
  intro e
  have := t.isLt.trans_eq N_1
  exact h (Fin.ext (show t.val = 4 by omega))

theorem body1 (c : Dev nD) : BodyObligation (dat1 X₀ O b c) (defs₀ (F := F)) 𝒱₀ none Set.univ := fun t => by
  rw [bigSep_W1, bigSep_W1]
  rw [show (dat1 X₀ O b c).Φ t.castSucc = inv1 X₀ c t.val from rfl, show (dat1 X₀ O b c).Φ t.succ = inv1 X₀ c (t.val + 1) from rfl,
    show (dat1 X₀ O b c).owesAt none t.succ = (dat1 X₀ O b c).owesAt none t.castSucc from rfl]
  unfold inv1
  iintro ⟨⟨%A, %hA, HA, Hoth⟩, Howes, ⟨%d0, H0⟩, ⟨%d1, H1⟩, ⟨%d2, H2⟩, ⟨%d3, H3⟩, ⟨%d4, H4⟩, ⟨%d5, H5⟩, ⟨%d6, H6⟩⟩
  rw [before1_0, before1_1, before1_2, before1_3, before1_4, before1_5]
  by_cases h0 : t = t1_0
  · subst h0
    iapply (stream_first c (grid1.coords t1_0) _ _ _ _ _ _ _ _ _ _ _ _ _ _ _ _ (imgs1 X₀ c) (blks1 X₀ c t1_0) _ A first_0 (last_n _ (by decide)) Set.univ _)
    isplitl [HA H0 H1 H2 H3 H4 H5 H6]
    · unfold held
      isplitl [H0]; · iexact H0
      isplitl [H1]; · iexact H1
      isplitl [H2]; · iexact H2
      isplitl [H3]; · iexact H3
      isplitl [H4]; · iexact H4
      isplitl [H5]; · iexact H5
      isplitl [H6]; · iexact H6
      iexact HA
    unfold held
    iintro ⟨H0, H1, H2, H3, H4, H5, H6, HA⟩
    isplitl [HA Hoth]
    · iexists _
      isplitr; swap
      · isplitl [HA]; · iexact HA
        iexact Hoth
      ipureintro
      intro _
      exact (acc1_succ X₀ c t1_0).symm
    isplitl [Howes]; · iexact Howes
    isplitl [H0]; · iexact H0
    isplitl [H1]; · iexact H1
    isplitl [H2]; · iexact H2
    isplitl [H3]; · iexact H3
    isplitl [H4]; · iexact H4
    isplitl [H5]; · iexact H5
    rw [idle1_n t1_0 (by decide), flush1_n t1_0 (by decide)]
    iexists _
    iexact H6
  have hA' : A = acc1 X₀ c t.val := hA fun e => h0 (Fin.ext e)
  subst hA'
  by_cases h4 : t = t1_4
  · subst h4
    iapply (stream_last c (grid1.coords t1_4) _ _ _ _ _ _ _ _ _ _ _ _ _ _ _ _ (imgs1 X₀ c) (blks1 X₀ c t1_4) _ (acc1 X₀ c t1_4.val) (first_n _ h0) last_4 Set.univ _)
    isplitl [HA H0 H1 H2 H3 H4 H5 H6]
    · unfold held
      isplitl [H0]; · iexact H0
      isplitl [H1]; · iexact H1
      isplitl [H2]; · iexact H2
      isplitl [H3]; · iexact H3
      isplitl [H4]; · iexact H4
      isplitl [H5]; · iexact H5
      isplitl [H6]; · iexact H6
      iexact HA
    unfold held
    rw [← acc1_succ X₀ c t1_4]
    iintro ⟨H0, H1, H2, H3, H4, H5, H6, HA⟩
    isplitl [HA Hoth]
    · iexists _
      isplitr; swap
      · isplitl [HA]; · iexact HA
        iexact Hoth
      ipureintro
      intro _
      rfl
    isplitl [Howes]; · iexact Howes
    isplitl [H0]; · iexact H0
    isplitl [H1]; · iexact H1
    isplitl [H2]; · iexact H2
    isplitl [H3]; · iexact H3
    isplitl [H4]; · iexact H4
    isplitl [H5]; · iexact H5
    rw [idle1_4]
    iexact H6
  · iapply (stream_mid c (grid1.coords t) _ _ _ _ _ _ _ _ _ _ _ _ _ _ _ _ (imgs1 X₀ c) (blks1 X₀ c t) _ (acc1 X₀ c t.val) (first_n _ h0) (last_n _ h4) Set.univ _)
    isplitl [HA H0 H1 H2 H3 H4 H5 H6]
    · unfold held
      isplitl [H0]; · iexact H0
      isplitl [H1]; · iexact H1
      isplitl [H2]; · iexact H2
      isplitl [H3]; · iexact H3
      isplitl [H4]; · iexact H4
      isplitl [H5]; · iexact H5
      isplitl [H6]; · iexact H6
      iexact HA
    unfold held
    rw [← acc1_succ X₀ c t]
    iintro ⟨H0, H1, H2, H3, H4, H5, H6, HA⟩
    isplitl [HA Hoth]
    · iexists _
      isplitr; swap
      · isplitl [HA]; · iexact HA
        iexact Hoth
      ipureintro
      intro _
      rfl
    isplitl [Howes]; · iexact Howes
    isplitl [H0]; · iexact H0
    isplitl [H1]; · iexact H1
    isplitl [H2]; · iexact H2
    isplitl [H3]; · iexact H3
    isplitl [H4]; · iexact H4
    isplitl [H5]; · iexact H5
    rw [idle1_n t h4, flush1_n t h4]
    iexists _
    iexact H6

theorem imgs1_eq (c : Dev nD) : imgs1 X₀ c = X₀ c main_v0 := by
  exact Memref.read_access_unit_zero (Elt F) main_v0 (by decide) _ _

/-- The pipeline's result: the accumulator after the last point. -/
theorem out1 (c : Dev nD) : (dat1 X₀ O b c).arrAt 6 cfg1.N = acc1 X₀ c 5 := by
  refine (dat1 X₀ O b c).arrAt_eq_of_after_last 6 t1_4 (by decide +kernel) _ fun j => ?_
  rfl

/-- The invariant before the first point, from the buffers that the pipeline does not stage … -/
theorem inv1_of_rest (c : Dev nD) :
    (Pipeline.scopedRest (Ix := HIx 1) (Name := ℕ) (U := UU) (Lvl := ℕ) (Val := Elt F) spec1 c : sProp 𝕄) ⊢ inv1 X₀ c 0 := by
  rw [scopedRest1_eq]; unfold inv1 oth1
  simp only [owns_whole_eq]
  iintro ⟨Ha, Hb, ⟨%f, Hs⟩, Hc, Hd, He, Hf⟩
  iexists f
  isplitr; · ipureintro; intro h; exact absurd rfl h
  isplitl [Hs]
  · iexists f
    isplitr; · ipureintro; rfl
    iexact Hs
  isplitl [Ha]; · iexact Ha
  isplitl [Hb]; · iexact Hb
  isplitl [Hc]; · iexact Hc
  isplitl [Hd]; · iexact Hd
  isplitl [He]; · iexact He
  iexact Hf

/-- … and those buffers back from it. -/
theorem rest_of_inv1 (c : Dev nD) (n : ℕ) :
    inv1 X₀ c n ⊢ (Pipeline.scopedRest (Ix := HIx 1) (Name := ℕ) (U := UU) (Lvl := ℕ) (Val := Elt F) spec1 c : sProp 𝕄) := by
  rw [scopedRest1_eq]; unfold inv1 oth1
  simp only [owns_whole_eq]
  iintro ⟨%A, -, ⟨%f, -, Hs⟩, Ha, Hb, Hc, Hd, He, Hf⟩
  isplitl [Ha]; · iexact Ha
  isplitl [Hb]; · iexact Hb
  isplitl [Hs]; · iexists f; iexact Hs
  isplitl [Hc]; · iexact Hc
  isplitl [Hd]; · iexact Hd
  isplitl [He]; · iexact He
  iexact Hf

/-! ## The pipeline over the buffers -/

variable (X₁ : Vals (F := F))

-- the two lemmas on the arrays are stated at the pinned configuration, which unification has to unfold
set_option backward.isDefEq.respectTransparency.types false in
/-- The second pipeline over the buffers of @main: entered at one set of contents, left at another that differs from it in the sums of powers. -/
def reg1 (hO : ∀ g, O g none = 0) (hout : ∀ c, X₁ c main_v1 = acc1 X₀ c 5) (hne : ∀ c (r : Ref sig .tc), r ≠ main_v1 → X₁ c r = X₀ c r) :
    Pipeline.RegionSeg (pcfgs (F := F)) adm (fam1 X₀ O b) (none : HIx 1) defs₀ 𝒱₀ (K (F := F)).L (K (F := F)).lev 1 where
  win := launch₀1.win
  block_pos := launch₀1.block_pos
  stage_whole := launch₀1.stage_whole
  K := PEmpty
  osem k := k.elim
  ho := Pipeline.OwnSemFacts.none _
  hbody c := (body1 X₀ O b c).loose
  hwaits c := Pipeline.cellsWaits_intro (Pipeline.pin (pcfgs (F := F)) adm) (fam1 X₀ O b) none 1 c fun w s t => (K (F := F)).mayWait_none _ hO
  pre c := iprop(unscopedBufs c (X₀ c) ∗ owing c O b)
  post c := iprop(unscopedBufs c (X₁ c) ∗ owing c O b)
  X _ := BI.emp
  Y _ := BI.emp
  Z c := Pipeline.unscopedRest (Ix := HIx 1) (Name := ℕ) (U := UU) (Lvl := ℕ) spec1 c (X₀ c)
  hentry c := by
    rw [Pipeline.ownSems0_none]
    have hsplit := Pipeline.arrays_of_unscopedBufs_shared (p := 1) (pcfgs (F := F)) adm (fam1 X₀ O b) launch₀1.win launch₀1.sharedIn launch₀1.arr_whole c
      (fun _ _ => rfl) (X₀ c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owing_in c (fam1 X₀ O b 1 c) O b 0 rfl rfl); iexact HO
    isplitr; · iempintro
    iexact Hrest
  hin c := by
    rw [show (fam1 X₀ O b 1 c).Φ 0 = inv1 X₀ c 0 from rfl]
    iintro ⟨-, -, Hr⟩
    iapply (inv1_of_rest X₀ c); iexact Hr
  hout c := by
    rw [Pipeline.ownSems0_none, show (fam1 X₀ O b 1 c).Φ (Fin.last _) = inv1 X₀ c (Fin.last cfg1.N).val from rfl]
    iintro Hr
    isplitr; · iempintro
    isplitr; · iempintro
    iapply (rest_of_inv1 X₀ c _); iexact Hr
  hexit c := by
    have hjoin := Pipeline.unscopedBufs_of_arrays_shared (p := 1) (pcfgs (F := F)) adm (Ix := HIx 1) (Name := ℕ) (U := UU) (Lvl := ℕ) launch₀1.win launch₀1.sharedIn launch₀1.arr_whole c
      (fam1 X₀ O b) (fun _ _ => rfl) (X₀ c) (X₁ c) ((fam1 X₀ O b 1 c).arrAt · cfg1.N)
      (fun w => by
        fin_cases w
        · exact ((fam1 X₀ O b 1 c).arrAt_in 0 rfl _).trans (hne c main_v0 (by decide)).symm
        · exact ((fam1 X₀ O b 1 c).arrAt_in 1 rfl _).trans (hne c main_arg3 (by decide)).symm
        · exact ((fam1 X₀ O b 1 c).arrAt_in 2 rfl _).trans (hne c main_arg3 (by decide)).symm
        · exact ((fam1 X₀ O b 1 c).arrAt_in 3 rfl _).trans (hne c main_arg3 (by decide)).symm
        · exact ((fam1 X₀ O b 1 c).arrAt_in 4 rfl _).trans (hne c main_arg3 (by decide)).symm
        · exact ((fam1 X₀ O b 1 c).arrAt_in 5 rfl _).trans (hne c main_arg3 (by decide)).symm
        · exact (out1 X₀ O b c).trans (hout c).symm)
      (fun r hr => hne c r fun h => hr (h ▸ Finset.mem_image.mpr ⟨6, Finset.mem_univ _, rfl⟩))
    iintro ⟨Ha, HO, -, Hrest⟩
    imodintro
    isplitl [Ha Hrest]
    · iapply hjoin; isplitl [Ha] <;> iassumption
    iapply (owing_out c (fam1 X₀ O b 1 c) O b (Fin.last _) rfl rfl); iexact HO

end Cert.Proof.KI

end
-- ==== Proof.KI.Region3.lean ====
module
public import proofs.«01_k».proof.Proof.KI.Region0

@[expose] public section

noncomputable section

namespace Cert.Proof.KI

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F] [Named F]

local notation "𝕄" => MT nD τ sig (HIx 1) (Elt F) ℕ UU ℕ

/-! ## The third pipeline: the mean of the images' losses -/

variable (X₀ : Vals (F := F)) (O : CellTallies nD τ sig (HIx 1)) (b : ℕ)

/-- The scaled images, the gathered rows and the sums of powers, as the pipeline brings them in. -/
abbrev imgs3 (c : Dev nD) : Vec F S1024x128 .f32 := ((cfg3.win 0).blk t3_0).view.read (Elt F) (X₀ c main_v0)
abbrev rows3 (c : Dev nD) : Vec F S1024x128 .f32 := ((cfg3.win 1).blk t3_0).view.read (Elt F) (X₀ c main_v2)
abbrev sums3 (c : Dev nD) : Vec F S1024x1 .f32 := ((cfg3.win 2).blk t3_0).view.read (Elt F) (X₀ c main_v1)

/-- The scoped buffers that the pipeline does not stage, at any contents. -/
abbrev rest3 (c : Dev nD) : sProp 𝕄 := Pipeline.scopedRest (Ix := HIx 1) (Name := ℕ) (U := UU) (Lvl := ℕ) (Val := Elt F) spec3 c

/-- The pipeline's data at an entry's contents. -/
def dat3 (c : Dev nD) : Dat τ (Elt F) (HIx 1) ℕ UU ℕ cfg3 c where
  A w := X₀ c (Pipeline.arrRef spec3 w)
  after w _ := match w with
    | ⟨0, _⟩ => imgs3 X₀ c
    | ⟨1, _⟩ => rows3 X₀ c
    | ⟨2, _⟩ => sums3 X₀ c
    | ⟨3, _⟩ => k3_pay1 (imgs3 X₀ c) (rows3 X₀ c) (sums3 X₀ c)
  Φ _ := rest3 c
  q _ := fullShare
  owed _ := O
  recorded _ := within (F := F) c b

def fam3 : (p : Fin 3) → (c : Dev nD) → Dat τ (Elt F) (HIx 1) ℕ UU ℕ (Pipeline.pin (pcfgs (F := F)) adm p) c
  | ⟨0, _⟩ => fun c => noDat c
  | ⟨1, _⟩ => fun c => noDat c
  | ⟨2, _⟩ => fun c => dat3 X₀ O b c

theorem before3_0 (c : Dev nD) (d : (cfg3.win 0).block.Idx → Elt F (cfg3.win 0).elt) : (dat3 X₀ O b c).before 0 t3_0 d = imgs3 X₀ c := by
  unfold Dat.before; rw [if_pos (by decide)]; rfl
theorem before3_1 (c : Dev nD) (d : (cfg3.win 1).block.Idx → Elt F (cfg3.win 1).elt) : (dat3 X₀ O b c).before 1 t3_0 d = rows3 X₀ c := by
  unfold Dat.before; rw [if_pos (by decide)]; rfl
theorem before3_2 (c : Dev nD) (d : (cfg3.win 2).block.Idx → Elt F (cfg3.win 2).elt) : (dat3 X₀ O b c).before 2 t3_0 d = sums3 X₀ c := by
  unfold Dat.before; rw [if_pos (by decide)]; rfl

theorem body3 (c : Dev nD) : BodyObligation (dat3 X₀ O b c) (defs₀ (F := F)) 𝒱₀ none Set.univ := fun t => by
  obtain rfl := fin_N3 t
  rw [bigSep_W3, bigSep_W3]
  rw [show (dat3 X₀ O b c).Φ t3_0.castSucc = rest3 c from rfl, show (dat3 X₀ O b c).Φ t3_0.succ = rest3 c from rfl,
    show (dat3 X₀ O b c).owesAt none t3_0.succ = (dat3 X₀ O b c).owesAt none t3_0.castSucc from rfl]
  iintro ⟨HΦ, Howes, ⟨%d0, H0⟩, ⟨%d1, H1⟩, ⟨%d2, H2⟩, ⟨%d3, H3⟩⟩
  rw [before3_0, before3_1, before3_2]
  iapply (combine_run c _ (hstage3_0 0) _ (hstage3_1 0) _ (hstage3_2 0) _ (hstage3_3 0) (imgs3 X₀ c) (rows3 X₀ c) (sums3 X₀ c) _ Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [Howes]; · iexact Howes
  isplitl [H0]; · iexact H0
  isplitl [H1]; · iexact H1
  isplitl [H2]; · iexact H2
  iexact H3

theorem imgs3_eq (c : Dev nD) : imgs3 X₀ c = X₀ c main_v0 := by
  exact Memref.read_access_unit_zero (Elt F) main_v0 (by decide) _ _
theorem rows3_eq (c : Dev nD) : rows3 X₀ c = X₀ c main_v2 := by
  exact Memref.read_access_unit_zero (Elt F) main_v2 (by decide) _ _
theorem sums3_eq (c : Dev nD) : sums3 X₀ c = X₀ c main_v1 := by
  exact Memref.read_access_unit_zero (Elt F) main_v1 (by decide) _ _

/-- The pipeline's result: the mean of the images' losses. -/
theorem out3 (c : Dev nD) : (dat3 X₀ O b c).arrAt 3 cfg3.N = k3_pay1 (X₀ c main_v0) (X₀ c main_v2) (X₀ c main_v1) := by
  refine (dat3 X₀ O b c).arrAt_eq_of_after_last 3 t3_0 (by decide +kernel) _ fun j => ?_
  rw [← imgs3_eq X₀ c, ← rows3_eq X₀ c, ← sums3_eq X₀ c]
  rfl

/-! ## The pipeline over the buffers -/

variable (X₁ : Vals (F := F))

-- the two lemmas on the arrays are stated at the pinned configuration, which unification has to unfold
set_option backward.isDefEq.respectTransparency.types false in
/-- The third pipeline over the buffers of @main: entered at one set of contents, left at another that differs from it in the mean loss. -/
def reg3 (hO : ∀ g, O g none = 0) (hout : ∀ c, X₁ c main_v3 = k3_pay1 (X₀ c main_v0) (X₀ c main_v2) (X₀ c main_v1)) (hne : ∀ c (r : Ref sig .tc), r ≠ main_v3 → X₁ c r = X₀ c r) :
    Pipeline.RegionSeg (pcfgs (F := F)) adm (fam3 X₀ O b) (none : HIx 1) defs₀ 𝒱₀ (K (F := F)).L (K (F := F)).lev 2 where
  win := launch3.win.to₀
  block_pos := launch3.block_pos
  stage_whole := launch3.stage_whole
  K := PEmpty
  osem k := k.elim
  ho := Pipeline.OwnSemFacts.none _
  hbody c := (body3 X₀ O b c).loose
  hwaits c := Pipeline.cellsWaits_intro (Pipeline.pin (pcfgs (F := F)) adm) (fam3 X₀ O b) none 2 c fun w s t => (K (F := F)).mayWait_none _ hO
  pre c := iprop(unscopedBufs c (X₀ c) ∗ owing c O b)
  post c := iprop(unscopedBufs c (X₁ c) ∗ owing c O b)
  X _ := BI.emp
  Y _ := BI.emp
  Z c := Pipeline.unscopedRest (Ix := HIx 1) (Name := ℕ) (U := UU) (Lvl := ℕ) spec3 c (X₀ c)
  hentry c := by
    rw [Pipeline.ownSems0_none]
    have hsplit := Pipeline.arrays_of_unscopedBufs (p := 2) (pcfgs (F := F)) adm (fam3 X₀ O b) launch3.win launch3.arr_whole c
      ((fam3 X₀ O b 2 c).share_full fun _ => rfl) (X₀ c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owing_in c (fam3 X₀ O b 2 c) O b 0 rfl rfl); iexact HO
    isplitr; · iempintro
    iexact Hrest
  hin c := by
    rw [show (fam3 X₀ O b 2 c).Φ 0 = rest3 c from rfl]
    iintro ⟨-, -, Hr⟩; iexact Hr
  hout c := by
    rw [Pipeline.ownSems0_none, show (fam3 X₀ O b 2 c).Φ (Fin.last _) = rest3 c from rfl]
    iintro Hr
    isplitr; · iempintro
    isplitr; · iempintro
    iexact Hr
  hexit c := by
    have hjoin := Pipeline.unscopedBufs_of_arrays (p := 2) (pcfgs (F := F)) adm (Ix := HIx 1) (Name := ℕ) (U := UU) (Lvl := ℕ) launch3.win launch3.arr_whole c
      (fam3 X₀ O b) ((fam3 X₀ O b 2 c).share_full fun _ => rfl) (X₀ c) (X₁ c) ((fam3 X₀ O b 2 c).arrAt · cfg3.N)
      (fun w => by
        fin_cases w
        · exact ((fam3 X₀ O b 2 c).arrAt_in 0 rfl _).trans (hne c main_v0 (by decide)).symm
        · exact ((fam3 X₀ O b 2 c).arrAt_in 1 rfl _).trans (hne c main_v2 (by decide)).symm
        · exact ((fam3 X₀ O b 2 c).arrAt_in 2 rfl _).trans (hne c main_v1 (by decide)).symm
        · exact (out3 X₀ O b c).trans (hout c).symm)
      (fun r hr => hne c r fun h => hr (h ▸ Finset.mem_image.mpr ⟨3, Finset.mem_univ _, rfl⟩))
    iintro ⟨Ha, HO, -, Hrest⟩
    imodintro
    isplitl [Ha Hrest]
    · iapply hjoin; isplitl [Ha] <;> iassumption
    iapply (owing_out c (fam3 X₀ O b 2 c) O b (Fin.last _) rfl rfl); iexact HO

end Cert.Proof.KI

end
-- ==== Proof.KI.Main.lean ====
/-
  The program's run: three pipelines and the SparseCore call between them, then the reshape; what every buffer holds after
  each, and the launch.
-/
module

public import proofs.«01_k».proof.Proof.KI.Tile
public import proofs.«01_k».proof.Proof.KI.Region0
public import proofs.«01_k».proof.Proof.KI.Region1
public import proofs.«01_k».proof.Proof.KI.Region3
public import Idealize.ShloMosaic.Lib.SparseCore.Quiescent
public import Idealize.ShloMosaic.Lib.StableHlo.Run

@[expose] public section

noncomputable section

namespace Cert.Proof.KI

open Cert.KernelIdeal Cert.KernelIdeal.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ## The buffers' contents after each step -/

abbrev at0 (b : Ref sig .tc) : DevRef τ sig := Proc.devRef .tc b
/-- A valuation as the pipelines take it. -/
abbrev onRefs (W : Dev nD → Valuation τ sig (Elt F)) : Vals (F := F) := fun c b => W c (at0 b)

/-- At the launch; -/
def V0 (c : Dev nD) : Valuation τ sig (Elt F) := fun b => m (c, b)
/-- after the first pipeline, `main_v0` holds the images, normalised and scaled; -/
def V1 (c : Dev nD) : Valuation τ sig (Elt F) := Function.update (V0 m c) (at0 main_v0) (k0_pay1 (m ((SparseCore.T c).loc main_arg0)))
/-- after the second, `main_v1` the sums over the classes; -/
def V2 (c : Dev nD) : Valuation τ sig (Elt F) := Function.update (V1 m c) (at0 main_v1) (acc1 (onRefs (V1 m)) c 5)
/-- after the SparseCore's call, `main_v2` the targets' rows; -/
def V3 (c : Dev nD) : Valuation τ sig (Elt F) := Function.update (V2 m c) (at0 main_v2) (rows2 m c)
/-- after the third, `main_v3` the loss; -/
def V4 (c : Dev nD) : Valuation τ sig (Elt F) := Function.update (V3 m c) (at0 main_v3)
  (k3_pay1 (V3 m c (at0 main_v0)) (V3 m c (at0 main_v2)) (V3 m c (at0 main_v1)))

/-- The reshape of the loss to a scalar. -/
abbrev opOut : HloOp τ sig (Elt F) := StableHlo.reshape main_v3 main_v4 (rfl : (.f32 : EltTy) = .f32) shapeCasts_S1x1_S_
/-- At the end, `main_v4` holds it. -/
def V5 (c : Dev nD) : Valuation τ sig (Elt F) := (opOut (F := F)).result (V4 m c)

/-- The kernel's result. -/
def loss (c : Dev nD) : Buf (Elt F) ((SparseCore.T c : Thread nD τ).loc main_v4) := V5 m c (at0 main_v4)

theorem V1_same (c : Dev nD) (r : Ref sig .tc) (h : r ≠ main_v0) : V1 m c (at0 r) = V0 m c (at0 r) :=
  Function.update_of_ne (StableHlo.devRef_ne_of_ne h) _ _
theorem V2_same (c : Dev nD) (r : Ref sig .tc) (h : r ≠ main_v1) : V2 m c (at0 r) = V1 m c (at0 r) :=
  Function.update_of_ne (StableHlo.devRef_ne_of_ne h) _ _
theorem V3_same (c : Dev nD) (r : Ref sig .tc) (h : r ≠ main_v2) : V3 m c (at0 r) = V2 m c (at0 r) :=
  Function.update_of_ne (StableHlo.devRef_ne_of_ne h) _ _
theorem V4_same (c : Dev nD) (r : Ref sig .tc) (h : r ≠ main_v3) : V4 m c (at0 r) = V3 m c (at0 r) :=
  Function.update_of_ne (StableHlo.devRef_ne_of_ne h) _ _
theorem V5_same (c : Dev nD) (r : Ref sig .tc) (h : r ≠ main_v4) : V5 m c (at0 r) = V4 m c (at0 r) :=
  StableHlo.result_of_writes_ne _ _ main_v4 r rfl h

/-- A buffer that no step writes is as at the launch. -/
theorem V5_arg (c : Dev nD) (r : Ref sig .tc) (h0 : r ≠ main_v0) (h1 : r ≠ main_v1) (h2 : r ≠ main_v2) (h3 : r ≠ main_v3) (h4 : r ≠ main_v4) :
    V5 m c (at0 r) = m ((SparseCore.T c).loc r) :=
  (V5_same m c r h4).trans ((V4_same m c r h3).trans ((V3_same m c r h2).trans ((V2_same m c r h1).trans (V1_same m c r h0))))

/-! ## The buffers one by one -/

theorem bufs_eq (d : Dev nD) (W : (b : Ref sig .tc) → Buf (Elt F) ((d.tc : Thread nD τ).loc b)) :
    (unscopedBufs d W : sProp 𝕄)
      = iprop(((SparseCore.T d).loc main_arg2 ↦{fullShare} W main_arg2) ∗ ((SparseCore.T d).loc main_arg3 ↦{fullShare} W main_arg3)
        ∗ ((SparseCore.T d).loc main_v2 ↦{fullShare} W main_v2) ∗ ((SparseCore.T d).loc main_arg0 ↦{fullShare} W main_arg0)
        ∗ ((SparseCore.T d).loc main_arg1 ↦{fullShare} W main_arg1) ∗ ((SparseCore.T d).loc main_v4 ↦{fullShare} W main_v4)
        ∗ ((SparseCore.T d).loc main_v0 ↦{fullShare} W main_v0) ∗ ((SparseCore.T d).loc main_v1 ↦{fullShare} W main_v1)
        ∗ ((SparseCore.T d).loc main_v3 ↦{fullShare} W main_v3)) := by
  unfold unscopedBufs
  rw [show (Finset.univ.filter fun b : Ref sig .tc => ¬ b.isScoped)
      = {main_arg2, main_arg3, main_v2, main_arg0, main_arg1, main_v4, main_v0, main_v1, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- The buffers that the SparseCore's call does not touch. -/
def others (d : Dev nD) : sProp 𝕄 :=
  iprop(((SparseCore.T d).loc main_arg0 ↦{fullShare} V2 m d (at0 main_arg0))
    ∗ ((SparseCore.T d).loc main_arg1 ↦{fullShare} V2 m d (at0 main_arg1)) ∗ ((SparseCore.T d).loc main_v4 ↦{fullShare} V2 m d (at0 main_v4))
    ∗ ((SparseCore.T d).loc main_v0 ↦{fullShare} V2 m d (at0 main_v0)) ∗ ((SparseCore.T d).loc main_v1 ↦{fullShare} V2 m d (at0 main_v1))
    ∗ ((SparseCore.T d).loc main_v3 ↦{fullShare} V2 m d (at0 main_v3)))

theorem V2_launch (c : Dev nD) (r : Ref sig .tc) (h0 : r ≠ main_v0) (h1 : r ≠ main_v1) : V2 m c (at0 r) = m ((SparseCore.T c).loc r) :=
  (V2_same m c r h1).trans (V1_same m c r h0)

theorem V2_launch' (c : Dev nD) (r : Ref sig .tc) (h0 : r ≠ main_v0) (h1 : r ≠ main_v1) : onRefs (V2 m) c r = m ((SparseCore.T c).loc r) :=
  V2_launch m c r h0 h1
theorem V3_same' (c : Dev nD) (r : Ref sig .tc) (h : r ≠ main_v2) : onRefs (V3 m) c r = onRefs (V2 m) c r := V3_same m c r h

theorem bufs_call (d : Dev nD) : (unscopedBufs d (onRefs (V2 m) d) : sProp 𝕄)
    = iprop(tgtPts m d ∗ ftrPts m d ∗ resPts d (m (resAt d)) ∗ others m d) := by
  rw [bufs_eq, V2_launch' m d main_arg2 (by decide) (by decide), V2_launch' m d main_arg3 (by decide) (by decide), V2_launch' m d main_v2 (by decide) (by decide)]
  rfl
theorem bufs_back (d : Dev nD) : (unscopedBufs d (onRefs (V3 m) d) : sProp 𝕄)
    = iprop(tgtPts m d ∗ ftrPts m d ∗ resPts d (rows2 m d) ∗ others m d) := by
  rw [bufs_eq, V3_same' m d main_arg2 (by decide), V3_same' m d main_arg3 (by decide), V3_same' m d main_arg0 (by decide), V3_same' m d main_arg1 (by decide),
    V3_same' m d main_v4 (by decide), V3_same' m d main_v0 (by decide), V3_same' m d main_v1 (by decide), V3_same' m d main_v3 (by decide),
    V2_launch' m d main_arg2 (by decide) (by decide), V2_launch' m d main_arg3 (by decide) (by decide),
    show onRefs (V3 m) d main_v2 = rows2 m d from Function.update_self _ _ _]
  rfl

/-! ## The launch's ghost state -/

abbrev pinned : (p : Fin 3) → Pipeline.Cfg sig Λ₀ := Pipeline.pin (pcfgs (F := F)) adm

def u₀ : UU :=
  (initOf (K (F := F)).hsCells (K (F := F)).hsToks,
    (initOf (Pipeline.cells (pinned (F := F)) cellOf_inj) (Pipeline.launchToks (pinned (F := F)) cellOf_inj), (1 : Counters)))

/-- What each device takes for its three pipelines. -/
def G (d : Dev nD) : sProp 𝕄 :=
  iprop((bigSep Finset.univ fun p => Pipeline.cellsGhost (pinned (F := F)) EP p d) ∗ bigSep Finset.univ fun p => Pipeline.toksInit (pinned (F := F)) EP p d)

theorem no_x {I : Type} (s : Finset I) : (bigSep s fun _ => iprop(emp)) = (iprop(emp) : sProp 𝕄) := bigSep_emp_const s

theorem fund : (ownU (u₀ (F := F)) : sProp 𝕄)
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H' := (own_pair_emb embR _ _) $$ HR
  icases H' with ⟨HP, -⟩
  imod (Pipeline.fund_ghost (pinned (F := F)) EP cellOf_inj) $$ HP with ⟨Hc, Ht⟩
  imodintro
  isplitl [HH]; · iexact HH
  isplitl [Hc Ht]
  · unfold G
    rw [bigSep_sep']
    isplitl [Hc]; · iexact Hc
    iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), no_x]
  iempintro

/-! ## @main on the TensorCore -/

theorem G_eq (d : Dev nD) : (G (F := F) d)
    = iprop((Pipeline.cellsGhost (pinned (F := F)) EP 0 d ∗ Pipeline.cellsGhost (pinned (F := F)) EP 1 d ∗ Pipeline.cellsGhost (pinned (F := F)) EP 2 d)
      ∗ (Pipeline.toksInit (pinned (F := F)) EP 0 d ∗ Pipeline.toksInit (pinned (F := F)) EP 1 d ∗ Pipeline.toksInit (pinned (F := F)) EP 2 d)) := by
  unfold G
  rw [show (Finset.univ : Finset (Fin 3)) = {0, 1, 2} by decide,
    SparseCore.bigSep_insert' (by decide), SparseCore.bigSep_insert' (by decide), bigSep_singleton,
    SparseCore.bigSep_insert' (by decide), SparseCore.bigSep_insert' (by decide), bigSep_singleton]

/-- A pipeline's entry in @main: from its buffers and its ghost state to its buffers as it leaves them. -/
theorem entry_step [∀ e, Nonempty (Elt F e)] {p : Fin 3} {fam : (p : Fin 3) → (c : Dev nD) → Pipeline.Dat τ (Elt F) (HIx 1) ℕ UU ℕ (pinned (F := F) p) c}
    (R : Pipeline.RegionSeg (pcfgs (F := F)) adm fam (none : HIx 1) defs₀ 𝒱₀ (K (F := F)).L (K (F := F)).lev p) (d : Dev nD) (Φ : PUnit → sProp 𝕄)
    {Pre Post : sProp 𝕄} (hpre : R.pre d = Pre) (hpost : R.post d = Post) :
    iprop(levAts (K (F := F)).L (K (F := F)).lev ∗ boundary (SparseCore.T d) ∗ Pre
        ∗ Pipeline.cellsGhost (pinned (F := F)) EP p d ∗ Pipeline.toksInit (pinned (F := F)) EP p d
        ∗ (iprop(boundary (SparseCore.T d) ∗ Post) -∗ Φ ⟨⟩))
      ⊢ wp frame (wpE ((K (F := F)).defs (D (F := F))) 𝒱 (SparseCore.T d) none) Set.univ
          (Prog.lift (.customCall (SparseCore.inner (Pipeline.entry p)) ())) Φ := by
  subst hpre hpost
  change _ ⊢ wp frame (wpE ((K (F := F)).defs (D (F := F))) 𝒱 (SparseCore.T d) none) Set.univ
    (SparseCore.liftProg (.op (.customCall (Pipeline.entry p) ()) .ret)) Φ
  iintro ⟨Hl, Hb, Hpre, Hc, Ht, Hk⟩
  iapply ((K (F := F)).wp_liftProg (D (F := F)) 𝒱 (SparseCore.T d) Set.univ none _ Φ)
  iapply (Pipeline.RegionSeg.wp (pcfgs (F := F)) adm fam (none : HIx 1) cellOf_inj EP defs₀ 𝒱₀ (K (F := F)).L (K (F := F)).lev R d none
    (fun _ h => nomatch h) .ret Φ)
  isplitl [Hk]
  · iintro H
    rw [wp_ret]
    imodintro
    iapply Hk; iexact H
  isplitl [Hb]; · iexact Hb
  isplitl [Hpre]; · iexact Hpre
  isplitl [Hl]; · iexact Hl
  isplitl [Hc] <;> iassumption

theorem st_eq (d : Dev nD) : (bigSep Finset.univ fun c : Fin ((K (F := F)).nCore 0) => (P m).st 0 d c) = iprop(tgtPts m d ∗ ftrPts m d ∗ resPts d (m (resAt d))) :=
  bigSep_univ_of_subsingleton (0 : Fin 1)
theorem dn_eq (d : Dev nD) : (bigSep Finset.univ fun c : Fin ((K (F := F)).nCore 0) => (P m).dn 0 d c) = iprop(tgtPts m d ∗ ftrPts m d ∗ resPts d (rows2 m d)) :=
  bigSep_univ_of_subsingleton (0 : Fin 1)

/-- The TensorCore owes nothing at a transfer's own index. -/
theorem owes_none (d : Dev nD) (n : ℕ) : ∀ g, (K (F := F)).Otc d n g none = 0 := by
  intro g
  by_contra h
  have := (K (F := F)).lev_of_Otc_pos (Nat.pos_of_ne_zero h)
  simp only [SparseCore.Cfg.lev_none] at this
  omega

/-- What @main leaves: every buffer at its final contents. -/
abbrev FIN (d : Dev nD) : sProp 𝕄 := unscopedBufs d (onRefs (V5 m) d)

/-- The TensorCore's part of the handshakes besides what it owes. -/
def shakes (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q : Fin 1 => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q : HIx 1) 1)))

theorem tcSt_eq (d : Dev nD) (n : ℕ) : ((K (F := F)).tcSt EH d n : sProp 𝕄) = iprop(owing d ((K (F := F)).Otc d n) (8 * n) ∗ shakes d n) := rfl

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [G_eq]
  simp only [main, wp_bind, wp_pure]
  iintro ⟨#Hctx, Hst, ⟨Hb, Hbufs, Hts, -⟩, ⟨Hc0, Hc1, Hc2⟩, Ht0, Ht1, Ht2⟩
  ihave Hlv := (SparseCore.Cfg.ctx_levAts (K := K (F := F)) (EH := EH) (P := P m) κ) $$ Hctx
  ihave Hst' := (Entails.of_eq (tcSt_eq d 0)) $$ Hst
  icases Hst' with ⟨HO, Hhs⟩
  -- the first pipeline
  iapply (entry_step (reg0 (onRefs (V0 m)) ((K (F := F)).Otc d 0) (8 * 0) (onRefs (V1 m)) (owes_none d 0)
    (fun c => Function.update_self _ _ _) (fun c r h => V1_same m c r h)) d _
    (Pre := iprop(unscopedBufs d (onRefs (V0 m) d) ∗ owing d ((K (F := F)).Otc d 0) (8 * 0)))
    (Post := iprop(unscopedBufs d (onRefs (V1 m) d) ∗ owing d ((K (F := F)).Otc d 0) (8 * 0))) rfl rfl)
  isplitl []; · iexact Hlv
  isplitl [Hb]; · iexact Hb
  isplitl [Hbufs HO]
  · isplitl [Hbufs]; · iexact Hbufs
    iexact HO
  isplitl [Hc0]; · iexact Hc0
  isplitl [Ht0]; · iexact Ht0
  iintro ⟨Hb, Hbufs, HO⟩
  -- the second
  iapply (entry_step (reg1 (onRefs (V1 m)) ((K (F := F)).Otc d 0) (8 * 0) (onRefs (V2 m)) (owes_none d 0)
    (fun c => Function.update_self _ _ _) (fun c r h => V2_same m c r h)) d _
    (Pre := iprop(unscopedBufs d (onRefs (V1 m) d) ∗ owing d ((K (F := F)).Otc d 0) (8 * 0)))
    (Post := iprop(unscopedBufs d (onRefs (V2 m) d) ∗ owing d ((K (F := F)).Otc d 0) (8 * 0))) rfl rfl)
  isplitl []; · iexact Hlv
  isplitl [Hb]; · iexact Hb
  isplitl [Hbufs HO]
  · isplitl [Hbufs]; · iexact Hbufs
    iexact HO
  isplitl [Hc1]; · iexact Hc1
  isplitl [Ht1]; · iexact Ht1
  iintro ⟨Hb, Hbufs, HO⟩
  -- the SparseCore's call
  ihave Hst := (Entails.of_eq (tcSt_eq d 0).symm) $$ [HO Hhs]
  · isplitl [HO]; · iexact HO
    iexact Hhs
  ihave Hh := (Entails.of_eq (bufs_call m d)) $$ Hbufs
  icases Hh with ⟨Htg, Hf, Hr, Hrest⟩
  iapply ((K (F := F)).wp_run (D (F := F)) 𝒱 (EH := EH) (P := P m) κ d 0)
  isplitr; · iexact Hctx
  isplitl [Hst]; · iexact Hst
  isplitl [Htg Hf Hr]
  · rw [st_eq]
    isplitl [Htg]; · iexact Htg
    isplitl [Hf]; · iexact Hf
    iexact Hr
  iintro ⟨Hst, Hdn⟩
  ihave Hdn' := (Entails.of_eq (dn_eq m d)) $$ Hdn
  icases Hdn' with ⟨Htg, Hf, Hr⟩
  ihave Hbufs := (Entails.of_eq (bufs_back m d).symm) $$ [Htg Hf Hr Hrest]
  · isplitl [Htg]; · iexact Htg
    isplitl [Hf]; · iexact Hf
    isplitl [Hr]; · iexact Hr
    iexact Hrest
  ihave Hst' := (show (K (F := F)).tcSt EH d ((0 : Fin 1).val + 1) ⊢ iprop(owing d ((K (F := F)).Otc d 1) (8 * 1) ∗ shakes d 1) from Entails.of_eq (tcSt_eq d 1)) $$ Hst
  icases Hst' with ⟨HO, Hhs⟩
  -- the third pipeline
  iapply (entry_step (reg3 (onRefs (V3 m)) ((K (F := F)).Otc d 1) (8 * 1) (onRefs (V4 m)) (owes_none d 1)
    (fun c => Function.update_self _ _ _) (fun c r h => V4_same m c r h)) d _
    (Pre := iprop(unscopedBufs d (onRefs (V3 m) d) ∗ owing d ((K (F := F)).Otc d 1) (8 * 1)))
    (Post := iprop(unscopedBufs d (onRefs (V4 m) d) ∗ owing d ((K (F := F)).Otc d 1) (8 * 1))) rfl rfl)
  isplitl []; · iexact Hlv
  isplitl [Hb]; · iexact Hb
  isplitl [Hbufs HO]
  · isplitl [Hbufs]; · iexact Hbufs
    iexact HO
  isplitl [Hc2]; · iexact Hc2
  isplitl [Ht2]; · iexact Ht2
  iintro ⟨Hb, Hbufs, HO⟩
  -- the reshape
  ihave Hheld := (Entails.of_eq (Pipeline.unscopedBufs_held d (V4 m d))) $$ Hbufs
  iapply (wp_hlo_within 𝒱 (SparseCore.T d) none Set.univ (op := opOut) (S := Pipeline.ucRefs τ sig)
    (Pipeline.sub_ucRefs _ (StableHlo.reshape_bufs_sub _ _ _ _ _ _)) (V := V4 m d)) $$ [Hb Hheld]
  · isplitl [Hb]; · iexact Hb
    iexact Hheld
  iintro ⟨Hb, Hheld⟩
  ihave Hbufs := (show StableHlo.held (SparseCore.T d) (Pipeline.ucRefs τ sig) ((opOut (F := F)).result (V4 m d)) ⊢ FIN m d from
    Entails.of_eq (Pipeline.unscopedBufs_held d (V5 m d)).symm) $$ Hheld
  rw [wp_ret]; imodintro; imodintro
  isplitl [HO Hhs]
  · iapply (Entails.of_eq (tcSt_eq d 1).symm)
    isplitl [HO]; · iexact HO
    iexact Hhs
  isplitl [Hbufs]; · iexact Hbufs
  isplitl [Hb] <;> iassumption

/-! ## The run -/

/-- What the run leaves on a device: the four arguments as they were, the loss in `main_v4`. -/
def fin (d : Dev nD) (s : (ℓ : Loc nD τ sig) → Buf (Elt F) ℓ) : Prop :=
  s ((SparseCore.T d).loc main_v4) = loss m d ∧ s ((SparseCore.T d).loc main_arg0) = m ((SparseCore.T d).loc main_arg0)
    ∧ s ((SparseCore.T d).loc main_arg1) = m ((SparseCore.T d).loc main_arg1) ∧ s ((SparseCore.T d).loc main_arg2) = m ((SparseCore.T d).loc main_arg2)
    ∧ s ((SparseCore.T d).loc main_arg3) = m ((SparseCore.T d).loc main_arg3)

theorem read_buf (s' : Phys nD τ sig (Elt F)) (ℓ : Loc nD τ sig) (f : Buf (Elt F) ℓ) :
    iprop(SI s' ∗ (ℓ ↦{fullShare} f)) ⊢ (⌜s'.mem.mem ℓ = f⌝ : sProp 𝕄) := by
  iintro H
  ihave H' := (SI_pointsTo_agree (st := s') (ℓ := ℓ) (I := Finset.univ) (q := fullShare) (f := f)) $$ H
  icases H' with %h
  ipureintro; exact funext fun i => h i (Finset.mem_univ i)

theorem hfin (d : Dev nD) (s' : Phys nD τ sig (Elt F)) : iprop(FIN m d ∗ SI s') ⊢ (⌜fin m d s'.mem.mem⌝ : sProp 𝕄) := by
  unfold FIN
  rw [bufs_eq]
  iintro ⟨⟨H2, H3, -, H0, H1, H4, -⟩, HSI⟩
  ihave H := (persistent_entails_right (read_buf s' _ _)) $$ [HSI H2]
  · isplitl [HSI] <;> iassumption
  icases H with ⟨%h2, HSI, -⟩
  ihave H := (persistent_entails_right (read_buf s' _ _)) $$ [HSI H3]
  · isplitl [HSI] <;> iassumption
  icases H with ⟨%h3, HSI, -⟩
  ihave H := (persistent_entails_right (read_buf s' _ _)) $$ [HSI H0]
  · isplitl [HSI] <;> iassumption
  icases H with ⟨%h0, HSI, -⟩
  ihave H := (persistent_entails_right (read_buf s' _ _)) $$ [HSI H1]
  · isplitl [HSI] <;> iassumption
  icases H with ⟨%h1, HSI, -⟩
  ihave H := (read_buf s' _ _) $$ [HSI H4]
  · isplitl [HSI] <;> iassumption
  icases H with %h4
  ipureintro
  refine ⟨h4, h0.trans ?_, h1.trans ?_, h2.trans ?_, h3.trans ?_⟩ <;> exact V5_arg m d _ (by decide) (by decide) (by decide) (by decide) (by decide)

/-- The program's run: at any float values, from any memory with zero counters whose class numbers name classes, every weakly
    fair execution ends with the loss in `main_v4`, the arguments as they were and every semaphore at zero. -/
theorem run_main [∀ e, Nonempty (Elt F e)] (hm : InRange m) :
    θ_run (Cert.KernelIdeal.defs (F := F)) (Cert.KernelIdeal.threads (F := F)) ⟨m, fun _ => 0, ρ⟩
      (fun r => (∀ d, fin m d r.2.mem) ∧ r.2.sem = fun _ => 0) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hm)
    (fun q _ => match q with | 0 => SparseCore.Cfg.VecSplit.of_plain (vecSplit m))
    m ρ main G (FIN m) (u₀ (F := F)) (sep_elim_left.trans (fund m)) (hmain m ρ) (fun d s' => fin m d s'.mem.mem) (hfin m)
    (fun r => (∀ d, fin m d r.2.mem) ∧ r.2.sem = fun _ => 0) (fun _ h hz => ⟨h, hz⟩)

end Cert.Proof.KI

end
-- ==== Proof.Frames.lean ====
module

public import proofs.«01_k».proof.Proof.Pre
public import proofs.«01_k».proof.Proof.KI.Main
public import proofs.«01_k».proof.Proof.Kn.Main
public import proofs.«01_k».proof.Proof.Gen.ReferenceIdeal.Run
public import Idealize.ShloMosaic.Lib.Quiescent

@[expose] public section

/-! # The frames and the named constants

Each program leaves its four arguments as they were and every counter at zero; the three constants that the ideal
program names round to the words that the printed program holds. -/

noncomputable section

namespace Cert.Proof

open Idealize.ShloMosaic Idealize.SL.Sem

/-- The printed program's frame. -/
theorem frame_kernel : Cert.quiescent_Kernel (hKernel := Cert.Kernel.Gen.facts) (hPre_in_range := Cert.Pre_in_range.Gen.facts) :=
  fun m ρ hpre => (θ_run Cert.Kernel.defs _ _).mono (fun _ h => ⟨fun c => (h.1 c).2, h.2⟩)
    (Kn.run_main (F := Bits) m ρ fun d j => target_lt _ _ _ _ (hpre d) j)

/-- The ideal program's frame under the range of the targets. -/
theorem frame_ideal : Cert.quiescent_KernelIdeal (hKernelIdeal := Cert.KernelIdeal.Gen.facts) (hPre_in_range := Cert.Pre_in_range.Gen.facts) :=
  fun m ρ hpre => (θ_run Cert.KernelIdeal.defs _ _).mono (fun _ h => ⟨fun c => (h.1 c).2, h.2⟩)
    (KI.run_main (F := Ideal) m ρ fun d j => target_lt _ _ _ _ (hpre d) j)

/-- The ideal program's frame under the precondition of the value claim. -/
theorem frame_ideal' : Cert.quiescent_KernelIdeal_pre_features_finite_in_range (hKernelIdeal := Cert.KernelIdeal.Gen.facts)
    (hPre_features_finite_in_range := Cert.Pre_features_finite_in_range.Gen.facts) :=
  fun m ρ hpre => (θ_run Cert.KernelIdeal.defs _ _).mono (fun _ h => ⟨fun c => (h.1 c).2, h.2⟩)
    (KI.run_main (F := Ideal) m ρ fun d j => target_lt' _ _ _ _ (hpre d) j)

/-- The reference's frame: its arguments stay, and no counter moves as it declares none. -/
theorem frame_reference : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems (by decide) r.2⟩)
    (Cert.ReferenceIdeal.Value.run (F := Ideal) m ρ)

/-- The reference's frame under the precondition of the value claim. -/
theorem frame_reference' : Cert.quiescent_ReferenceIdeal_pre_features_finite_in_range (hReferenceIdeal := Cert.ReferenceIdeal.Gen.facts)
    (hPre_features_finite_in_range := Cert.Pre_features_finite_in_range.Gen.facts) :=
  fun m ρ _ => frame_reference m ρ trivial

/-- Each named constant is a real number that rounds to the word in the printed program. -/
theorem preserves : Cert.preserves_Kernel_KernelIdeal := by
  refine ⟨?_, ?_, ?_⟩
  · exact IdealRules.named_const.statement Cert.KernelIdeal.κ "log2e_over_temp" .f32 0x429044FE#32
      (((268435456 / 5368709) * (Real.log 2)⁻¹ : ℝ) : EReal) rfl
  · exact IdealRules.named_const.statement Cert.KernelIdeal.κ "log2e" .f32 0x3FB8AA3B#32 (((Real.log 2)⁻¹ : ℝ) : EReal) rfl
  · exact IdealRules.named_const.statement Cert.KernelIdeal.κ "ln2" .f32 0x3F317218#32 ((Real.log 2 : ℝ) : EReal) rfl

end Cert.Proof

end
-- ==== Proof.RI.Value.lean ====
module

public import proofs.«01_k».proof.Proof.Numbers
public import proofs.«01_k».proof.Proof.Gen.ReferenceIdeal.Run
public import Idealize.ShloMosaic.Lib.ReduceAll
public import Idealize.ShloMosaic.Lib.Affine

@[expose] public section

/-! # The reference's value

The reference's result in stages, and each stage as real numbers when the features are finite and the targets in range:
the scores, the scores less a number of their row, the logarithm of the softmax, the entry at each target, the mean. -/

set_option maxRecDepth 16384

noncomputable section

namespace Cert.Proof.RI

open Idealize.ShloMosaic Idealize.SL.Sem
open Cert.ReferenceIdeal Cert.ReferenceIdeal.Gen

/-! ## The stages -/

/-- The scores: the normalised rows against every feature row, over the temperature. -/
def scores (X : FVec Ideal S1024x128 .f32) (W : FVec Ideal S100000x128 .f32) : FVec Ideal S1024x100000 .f32 :=
  Host.divf (Host.dotGeneral dot_S1024x128_S128x100000_S1024x100000_1_0_0_1_n_n none
    (Host.divf X (broadcastInDim S1024x128 ![0, 1] bcast_S1024x1_S1024x128_0_1
      (maximumf (Host.sqrt (broadcastInDim S1024x1 ![0] bcast_S1024_S1024x1_0
          (Host.reduceAdd (mulf X X) (constant S_ .f32 0x00000000#32) reducesTo_S1024x128_S1024_d1 h_S_)))
        (broadcastInDim S1024x1 ![] bcast_S_S1024x1 (constant S_ .f32 0x2B8CBCCC#32)))))
    (transpose S128x100000 [1, 0] W transposes_S100000x128_S128x100000_1_0))
    (broadcastInDim S1024x100000 ![] bcast_S_S1024x100000 (constant S_ .f32 0x3CA3D70A#32))

/-- Each row's greatest score. -/
def greatest (L : FVec Ideal S1024x100000 .f32) : FVec Ideal S1024 .f32 :=
  Host.reduce FloatOps.maximumf L (constant S_ .f32 0xFF800000#32) reducesTo_S1024x100000_S1024_d1 h_S_

/-- The scores less a number for each row. -/
def shiftBy (L : FVec Ideal S1024x100000 .f32) (R : FVec Ideal S1024 .f32) : FVec Ideal S1024x100000 .f32 :=
  subf L (broadcastInDim S1024x100000 ![0, 1] bcast_S1024x1_S1024x100000_0_1
    (broadcastInDim S1024x1 ![0] bcast_S1024_S1024x1_0
      (maximumf (broadcastInDim S1024 ![] bcast_S_S1024 (constant S_ .f32 0xFF800000#32)) R)))

/-- The logarithm of each row's softmax, from the shifted scores. -/
def logp (D : FVec Ideal S1024x100000 .f32) : FVec Ideal S1024x100000 .f32 :=
  subf D (broadcastInDim S1024x100000 ![0, 1] bcast_S1024x1_S1024x100000_0_1
    (Host.log (broadcastInDim S1024x1 ![0] bcast_S1024_S1024x1_0
      (Host.reduceAdd (Host.exp D) (constant S_ .f32 0x00000000#32) reducesTo_S1024x100000_S1024_d1 h_S_))))

/-- The targets as the lookup's start indices, a negative one counted from the end. -/
def starts (t : IVec S1024 32) : IVec S1024x1x1 32 :=
  shapeCast _ (select (cmpi .slt (broadcastInDim S1024x1 ![0] bcast_S1024_S1024x1_0 t)
      (broadcastInDim S1024x1 ![] bcast_S_S1024x1 (constantI S_ 32 0#32)))
    (addi (broadcastInDim S1024x1 ![0] bcast_S1024_S1024x1_0 t) (broadcastInDim S1024x1 ![] bcast_S_S1024x1 (constantI S_ 32 100000#32)))
    (broadcastInDim S1024x1 ![0] bcast_S1024_S1024x1_0 t)) shapeCasts_S1024x1_S1024x1x1

/-- Whether each start index is a column of the table. -/
def inside (q : IVec S1024x1x1 32) : IVec S1024x1 1 :=
  Host.reduce IntOp.andi (andi (cmpi .sge q (broadcastInDim S1024x1x1 ![] bcast_S_S1024x1x1 (constantI S_ 32 0#32)))
      (cmpi .sle q (broadcastInDim S1024x1x1 ![0, 1, 2] bcast_S1x1x1_S1024x1x1_0_1_2
        (broadcastInDim S1x1x1 ![2] bcast_S1_S1x1x1_2 (constantI S1 32 99999#32)))))
    (constantI S_ 1 1#1) reducesTo_S1024x1x1_S1024x1_d2 h_S_

/-- Each row's entry at its start index, where that is a column. -/
def picked (G : FVec Ideal S1024x100000 .f32) (q : IVec S1024x1x1 32) : FVec Ideal S1024x1 .f32 :=
  select (inside q) (Host.gather gather_S1024x100000_S1024x1x1_S1024x1_n_1_0_0_1_2_11 G q)
    (broadcastInDim S1024x1 ![] bcast_S_S1024x1 (constant S_ .f32 0x7FC00000#32))

/-- Less the mean of the picked entries. -/
def negMean (p : FVec Ideal S1024x1 .f32) : FVec Ideal S_ .f32 :=
  Host.negf (Host.divf (Host.reduceAdd p (constant S_ .f32 0x00000000#32) reducesTo_S1024x1_S_d0_1 h_S_) (constant S_ .f32 0x44800000#32))

/-- The reference's whole result from its three arguments that matter. -/
def result (X : FVec Ideal S1024x128 .f32) (t : IVec S1024 32) (W : FVec Ideal S100000x128 .f32) : FVec Ideal S_ .f32 :=
  negMean (picked (logp (shiftBy (scores X W) (greatest (scores X W)))) (starts t))

/-- The reference's result is these stages, one after the other. -/
theorem result_eq (m : (ℓ : Loc nD τ sig) → Buf (Elt Ideal) ℓ) (c : Dev nD) :
    Value.res_out0 m c = result (m ((c.tc : Thread nD τ).loc main_arg0)) (m ((c.tc : Thread nD τ).loc main_arg2))
      (m ((c.tc : Thread nD τ).loc main_arg3)) := rfl

/-! ## The stages at an index -/

theorem scores_at (X : FVec Ideal S1024x128 .f32) (W : FVec Ideal S100000x128 .f32) (i : Fin 1024) (r : Fin 100000) :
    scores X W (ix2 i r) = Ideal.div (∑ k, Ideal.div (X (ix2 i k))
        (max (Ideal.sqrt (∑ x, X (ix2 i x) * X (ix2 i x))) (Ideal.ofBits .f32 0x2B8CBCCC#32)) * W (ix2 r k))
      (Ideal.ofBits .f32 0x3CA3D70A#32) := by
  pointwise [scores]

theorem shiftBy_at (L : FVec Ideal S1024x100000 .f32) (R : FVec Ideal S1024 .f32) (i : Fin 1024) (r : Fin 100000) :
    shiftBy L R (ix2 i r) = L (ix2 i r) - max (Ideal.ofBits .f32 0xFF800000#32) (R (ix1 i)) := by
  pointwise [shiftBy]

theorem logp_at (L : FVec Ideal S1024x100000 .f32) (i : Fin 1024) (r : Fin 100000) :
    logp L (ix2 i r) = L (ix2 i r) - Ideal.log (∑ x, Ideal.exp (L (ix2 i x))) := by
  pointwise [logp]

theorem negMean_at (p : FVec Ideal S1024x1 .f32) (j : S_.Idx) :
    negMean p j = -Ideal.div (∑ i, p (ix2 i 0)) (Ideal.ofBits .f32 0x44800000#32) := by
  pointwise [negMean]
  simp only [Fin.sum_univ_one, Fin.isValue]

/-- A start index in range is the target itself. -/
theorem starts_at (t : IVec S1024 32) (i : Fin 1024) (a b : Fin 1) (h : (t (ix1 i)).toNat < 100000) :
    starts t (ix3 i a b) = t (ix1 i) := by
  pointwise [starts]
  have : ¬ IntOp.cmpi .slt (t (ix1 i)) 0#32 = 1#1 := by
    rw [IntOp.cmpi_slt, BitVec.toInt_eq_toNat_cond, if_pos (by omega)]; simp
  simp [Scalar.select, this]

/-- Start indices in range are found inside. -/
theorem inside_at (q : IVec S1024x1x1 32) (h : ∀ j, (q j).toNat < 100000) (j : S1024x1.Idx) : inside q j = 1#1 := by
  refine Host.reduce_andi_one _ _ _ _ _ rfl fun i => ?_
  have e : (q i).toInt = (q i).toNat := by
    rw [BitVec.toInt_eq_toNat_cond, if_pos (by have := h i; omega)]
  have h0 : IntOp.cmpi .sge (q i) 0#32 = 1#1 := by
    rw [IntOp.cmpi_sge, e]; simp
  have h1 : IntOp.cmpi .sle (q i) 99999#32 = 1#1 := by
    rw [IntOp.cmpi_sle, e, show (99999#32).toInt = 99999 by decide]; have := h i; omega
  show IntOp.andi (IntOp.cmpi .sge (q i) 0#32) (IntOp.cmpi .sle (q i) 99999#32) = 1#1
  rw [h0, h1]; rfl

/-- The lookup reads its table at the row and at the row's start index. -/
theorem start_at (q : IVec S1024x1x1 32) (i : Fin 1024) (h : (q (ix3 i 0 0)).toNat < 100000) :
    gather_S1024x100000_S1024x1x1_S1024x1_n_1_0_0_1_2_11.operandIdx (ix2 i 0) q = ix2 i ⟨(q (ix3 i 0 0)).toNat, h⟩ := by
  funext a
  have e : (q (ix3 i 0 0)).toInt = (q (ix3 i 0 0)).toNat := by
    rw [BitVec.toInt_eq_toNat_cond, if_pos (by omega)]
  refine Fin.ext ?_
  fin_cases a
  · show GatherDims.start _ _ _ _ + GatherDims.batchCoord _ _ _ + GatherDims.offCoord _ _ _ = _
    rw [GatherDims.start_batching _ _ _ _ (by decide), GatherDims.offCoord_eq_zero _ _ _ (by decide)]
    simp only [Nat.zero_add, Nat.add_zero]
    rfl
  · show GatherDims.start _ _ _ _ + GatherDims.batchCoord _ _ _ + GatherDims.offCoord _ _ _ = _
    rw [GatherDims.batchCoord_eq_zero _ _ _ (by decide), GatherDims.offCoord_eq_zero _ _ _ (by decide)]
    have hs : gather_S1024x100000_S1024x1x1_S1024x1_n_1_0_0_1_2_11.siIdx (ix2 i 0) ⟨0, by decide⟩ = ix3 i 0 0 := by
      funext b; fin_cases b <;> rfl
    show min (q (gather_S1024x100000_S1024x1x1_S1024x1_n_1_0_0_1_2_11.siIdx (ix2 i 0) ⟨0, by decide⟩)).toInt.toNat 99999 + 0 + 0
      = (q (ix3 i 0 0)).toNat
    rw [hs, e]
    omega

/-- The lookup takes each row's entry at its start index. -/
theorem gather_at (G : FVec Ideal S1024x100000 .f32) (q : IVec S1024x1x1 32) (i : Fin 1024) (h : (q (ix3 i 0 0)).toNat < 100000) :
    Host.gather gather_S1024x100000_S1024x1x1_S1024x1_n_1_0_0_1_2_11 G q (ix2 i 0) = G (ix2 i ⟨(q (ix3 i 0 0)).toNat, h⟩) := by
  unfold Host.gather
  rw [start_at q i h]

/-- A row's greatest score is a real number when the scores are. -/
theorem greatest_real (L : FVec Ideal S1024x100000 .f32) (l : S1024x100000.Idx → ℝ) (hl : ∀ j, L j = (l j : EReal)) (i : S1024.Idx) :
    ∃ M : ℝ, greatest L i = (M : EReal) := by
  have hL : L = fun j => (l j : EReal) := funext hl
  unfold greatest
  rw [Host.reduce_eq_fold, hL, show (constant S_ .f32 0xFF800000#32 : FVec Ideal S_ .f32) (Shape.Idx.first h_S_) = ⊥ from minus_infinity]
  refine fold_max_real _ _ ⟨ix2 (i 0) 0, Finset.mem_filter.2 ⟨Finset.mem_univ _, ?_⟩⟩
  funext a
  refine Fin.ext ?_
  fin_cases a
  exact Shape.ReducesTo.drop_apply_val_of_eq reducesTo_S1024x100000_S1024_d1 (ix2 (i 0) 0) 0 0

/-! ## The result as a real number -/

/-- The reference's scale, the reciprocal of the 32-bit float nearest 0.02. -/
abbrev scale : ℝ := 268435456 / 5368709

/-- The score of row `i` against feature row `r`, before the scale. -/
def score (u : Fin 1024 → Fin 128 → ℝ) (w : Fin 100000 → Fin 128 → ℝ) (i : Fin 1024) (r : Fin 100000) : ℝ :=
  ∑ k, u i k * w r k

/-- With real normalised rows `u`, real feature rows `w` and targets in range, the reference's result is less the mean
    over the rows of the target's shifted score less the logarithm of the sum of the exponentials of all. -/
theorem result_real (X : FVec Ideal S1024x128 .f32) (t : IVec S1024 32) (W : FVec Ideal S100000x128 .f32)
    (u : Fin 1024 → Fin 128 → ℝ) (w : Fin 100000 → Fin 128 → ℝ)
    (hu : ∀ i k, Ideal.div (X (ix2 i k)) (max (Ideal.sqrt (∑ x, X (ix2 i x) * X (ix2 i x))) (Ideal.ofBits .f32 0x2B8CBCCC#32)) = (u i k : EReal))
    (hw : ∀ r k, W (ix2 r k) = (w r k : EReal)) (ht : ∀ i, (t (ix1 i)).toNat < 100000) :
    ∃ M : Fin 1024 → ℝ, ∀ j, result X t W j
      = ((-((∑ i, (score u w i ⟨(t (ix1 i)).toNat, ht i⟩ * scale - M i
            - Real.log (∑ r, Real.exp (score u w i r * scale - M i)))) / 1024) : ℝ) : EReal) := by
  have hL : ∀ i r, scores X W (ix2 i r) = ((score u w i r * scale : ℝ) : EReal) := fun i r => by
    rw [scores_at, Finset.sum_congr rfl fun k _ => by rw [hu, hw, ← EReal.coe_mul], sum_real, temp_real, div_real _ (by norm_num)]
    congr 1; rw [score]; ring
  have hM : ∀ i : Fin 1024, ∃ M : ℝ, greatest (scores X W) (ix1 i) = (M : EReal) := fun i =>
    greatest_real _ (fun j => score u w (j 0) (j 1) * scale) (fun j => by
      obtain ⟨a, b, rfl⟩ : ∃ (a : Fin 1024) (b : Fin 100000), j = ix2 a b := ⟨j 0, j 1, eq_ix2 j⟩
      exact hL a b) _
  choose M hM using hM
  refine ⟨M, fun j => ?_⟩
  have hD : ∀ i r, shiftBy (scores X W) (greatest (scores X W)) (ix2 i r) = ((score u w i r * scale - M i : ℝ) : EReal) := fun i r => by
    rw [shiftBy_at, hL, hM, minus_infinity, max_eq_right bot_le, ← EReal.coe_sub]
  have hP : ∀ i r, logp (shiftBy (scores X W) (greatest (scores X W))) (ix2 i r)
      = ((score u w i r * scale - M i - Real.log (∑ r, Real.exp (score u w i r * scale - M i)) : ℝ) : EReal) := fun i r => by
    have hpos : ¬ (∑ r, Real.exp (score u w i r * scale - M i)) ≤ 0 :=
      not_le.2 (Finset.sum_pos (fun r _ => Real.exp_pos _) ⟨0, Finset.mem_univ _⟩)
    rw [logp_at, hD, Finset.sum_congr rfl fun x _ => by rw [hD, Ideal.exp_coe], sum_real, Ideal.log_coe, if_neg hpos, ← EReal.coe_sub]
  have hS : ∀ i : Fin 1024, starts t (ix3 i 0 0) = t (ix1 i) := fun i => starts_at t i 0 0 (ht i)
  have hIn : ∀ j, (starts t j).toNat < 100000 := fun j => by
    obtain ⟨a, b, c, rfl⟩ : ∃ (a : Fin 1024) (b c : Fin 1), j = ix3 a b c := ⟨j 0, j 1, j 2, eq_ix3 j⟩
    rw [starts_at t a b c (ht a)]; exact ht a
  have hG : ∀ i : Fin 1024, picked (logp (shiftBy (scores X W) (greatest (scores X W)))) (starts t) (ix2 i 0)
      = ((score u w i ⟨(t (ix1 i)).toNat, ht i⟩ * scale - M i
            - Real.log (∑ r, Real.exp (score u w i r * scale - M i)) : ℝ) : EReal) := fun i => by
    rw [← hP]
    show Scalar.select (inside (starts t) (ix2 i 0)) _ _ = _
    rw [inside_at _ hIn]
    refine (if_pos (show (1#1 : BitVec 1) = 1 from rfl)).trans ?_
    rw [gather_at _ _ _ (hIn _)]
    simp only [hS]
  rw [result, negMean_at, Finset.sum_congr rfl fun i _ => hG i, sum_real, batch_real, div_real _ (by norm_num), ← EReal.coe_neg]

end Cert.Proof.RI

end
-- ==== Proof.KI.Value.lean ====
/-
  The kernel's result as a real number: what the three pipelines and the gather leave, read at an index over the extended
  reals, from real normalised rows, real feature rows and targets in range.
-/
module

public import proofs.«01_k».proof.Proof.KI.Main
public import proofs.«01_k».proof.Proof.RI.Value

@[expose] public section

set_option maxRecDepth 16384

noncomputable section

namespace Cert.Proof.KI

open Cert.KernelIdeal Cert.KernelIdeal.Gen

open Idealize.ShloMosaic
open Idealize.ShloMosaic.Tactic
open Idealize.SL
open Cert.Proof.RI (scale score)

/-! ## The constants -/

/-- The scale folded with the change of base, as a real number. -/
abbrev kappa : ℝ := scale * (Real.log 2)⁻¹

theorem log2e_over_temp_real :
    (Named.named (F := Ideal) Cert.KernelIdeal.κ "log2e_over_temp" (φ := .f32) 0x429044FE#32) = (kappa : EReal) :=
  IdealRules.named_const.ideal_named_scalar _ _ _ _ rfl
theorem log2e_real : (Named.named (F := Ideal) Cert.KernelIdeal.κ "log2e" (φ := .f32) 0x3FB8AA3B#32) = (((Real.log 2)⁻¹ : ℝ) : EReal) :=
  IdealRules.named_const.ideal_named_scalar _ _ _ _ rfl
theorem ln2_real : (Named.named (F := Ideal) Cert.KernelIdeal.κ "ln2" (φ := .f32) 0x3F317218#32) = ((Real.log 2 : ℝ) : EReal) :=
  IdealRules.named_const.ideal_named_scalar _ _ _ _ rfl

/-! ## The kernels' payloads at an index -/

theorem prep_at (X : Vec Ideal S1024x128 .f32) (i : Fin 1024) (k : Fin 128) :
    k0_pay1 (F := Ideal) X (ix2 i k) = X (ix2 i k) * Ideal.div (Named.named (F := Ideal) Cert.KernelIdeal.κ "log2e_over_temp" (φ := .f32) 0x429044FE#32)
      (max (Ideal.sqrt (∑ x, X (ix2 i x) * X (ix2 i x))) (Ideal.ofBits .f32 0x2B8CBCCC#32)) := by
  pointwise [k0_pay1]

theorem zero_at (i : Fin 1024) (k : Fin 1) : k1_pay2 (F := Ideal) (ix2 i k) = 0 := by
  pointwise [k1_pay2]

theorem step_at (X : Vec Ideal S1024x128 .f32) (B0 B1 B2 B3 B4 : Vec Ideal S4000x128 .f32) (A : Vec Ideal S1024x1 .f32) (i : Fin 1024) (k : Fin 1) :
    k1_pay1 (F := Ideal) (k1_pay4 (F := Ideal) X B0 B1 B2 B3) (k1_pay5 (F := Ideal) X B4) A (ix2 i k)
      = A (ix2 i k) + ((∑ x, Ideal.exp2 (∑ k, X (ix2 i k) * B0 (ix2 x k))) + (∑ x, Ideal.exp2 (∑ k, X (ix2 i k) * B1 (ix2 x k)))
        + (∑ x, Ideal.exp2 (∑ k, X (ix2 i k) * B2 (ix2 x k))) + (∑ x, Ideal.exp2 (∑ k, X (ix2 i k) * B3 (ix2 x k)))
        + (∑ x, Ideal.exp2 (∑ k, X (ix2 i k) * B4 (ix2 x k)))) := by
  pointwise [k1_pay1, k1_pay4, k1_pay5, k1_pay3]
  rfl

theorem combine_at (X Y : Vec Ideal S1024x128 .f32) (A : Vec Ideal S1024x1 .f32) (j : S1x1.Idx) :
    k3_pay1 (F := Ideal) X Y A j = Ideal.div (∑ x, (Ideal.log (A (ix2 x 0)) * Named.named (F := Ideal) Cert.KernelIdeal.κ "log2e" (φ := .f32) 0x3FB8AA3B#32
        - ∑ k, X (ix2 x k) * Y (ix2 x k))) (Ideal.ofBits .f32 0x44800000#32) * Named.named (F := Ideal) Cert.KernelIdeal.κ "ln2" (φ := .f32) 0x3F317218#32 := by
  pointwise [k3_pay1]
  simp only [Fin.sum_univ_one, Fin.isValue]
  try rfl

/-! ## The feature blocks -/

theorem index1 : ∀ t : Fin cfg1.N, win1_1.index t = ![t.val, 0] ∧ win1_2.index t = ![5 + t.val, 0] ∧ win1_3.index t = ![10 + t.val, 0]
    ∧ win1_4.index t = ![15 + t.val, 0] ∧ win1_5.index t = ![20 + t.val, 0] := by
  decide +kernel

variable (X₀ : Vals (F := Ideal))

/-- The `s`-th block brought in at a point holds 4000 consecutive feature rows. -/
theorem block_at (c : Dev nD) (t : Fin cfg1.N) (s : Fin 5) (x : Fin 4000) (k : Fin 128) (h : (5 * s.val + t.val) * 4000 + x.val < 100000) :
    blks1 X₀ c t s (ix2 x k) = X₀ c main_arg3 (ix2 ⟨(5 * s.val + t.val) * 4000 + x.val, h⟩ k) := by
  obtain ⟨e1, e2, e3, e4, e5⟩ := index1 t
  fin_cases s <;> unfold blks1
  · blk_ext [e1]
  · blk_ext [e2]
  · blk_ext [e3]
  · blk_ext [e4]
  · blk_ext [e5]

/-! ## The sums of powers -/

/-- A sum over blocks of 4000 is the sum over all. -/
theorem sum_blocks (f : ℕ → ℝ) (n : ℕ) : ∑ r ∈ Finset.range (n * 4000), f r = ∑ b ∈ Finset.range n, ∑ x : Fin 4000, f (b * 4000 + x.val) := by
  induction n with
  | zero => simp
  | succ n ih =>
    rw [Nat.succ_mul, Finset.sum_range_add _ (n * 4000) 4000, ih, Finset.sum_range_succ _ n]
    refine congrArg _ ?_
    exact (Fin.sum_univ_eq_sum_range (fun x => f (n * 4000 + x)) 4000).symm

/-- The blocks' sums, taken five at a time as the pipeline brings them in, make the sum over all rows. -/
theorem sum_rows (p : Fin 100000 → ℝ) (f : ℕ → ℝ) (hf : ∀ r : Fin 100000, f r.val = p r) (β : ℕ → ℝ) (hβ : ∀ b, β b = ∑ x : Fin 4000, f (b * 4000 + x.val)) :
    (((((0 + (β 0 + β 5 + β 10 + β 15 + β 20)) + (β 1 + β 6 + β 11 + β 16 + β 21)) + (β 2 + β 7 + β 12 + β 17 + β 22))
      + (β 3 + β 8 + β 13 + β 18 + β 23)) + (β 4 + β 9 + β 14 + β 19 + β 24)) = ∑ r, p r := by
  have h := sum_blocks f 25
  rw [Finset.sum_congr rfl fun b _ => (hβ b).symm] at h
  rw [Finset.sum_congr rfl fun r _ => (hf r).symm, Fin.sum_univ_eq_sum_range f 100000, show 100000 = 25 * 4000 from rfl, h]
  simp only [Finset.sum_range_succ, Finset.sum_range_zero]
  ring

/-- A row's dot product with the scaled normalised row is its score times the scale. -/
theorem dot_real (u : Fin 1024 → Fin 128 → ℝ) (w : Fin 100000 → Fin 128 → ℝ) (i : Fin 1024) (r : Fin 100000) :
    ∑ k, ((u i k * kappa : ℝ) : EReal) * (w r k : EReal) = ((score u w i r * kappa : ℝ) : EReal) := by
  rw [Finset.sum_congr rfl fun k _ => (EReal.coe_mul _ _).symm, sum_real, score, Finset.sum_mul]
  congr 1
  exact Finset.sum_congr rfl fun k _ => by ring

/-- The power that feature row `r` adds to row `i`'s sum, at a natural number `r`. -/
def power (u : Fin 1024 → Fin 128 → ℝ) (w : Fin 100000 → Fin 128 → ℝ) (i : Fin 1024) (r : ℕ) : ℝ :=
  if h : r < 100000 then (2 : ℝ) ^ (score u w i ⟨r, h⟩ * kappa) else 0

/-- The powers of one block of 4000 feature rows, summed. -/
def blockSum (u : Fin 1024 → Fin 128 → ℝ) (w : Fin 100000 → Fin 128 → ℝ) (i : Fin 1024) (b : ℕ) : ℝ :=
  ∑ x : Fin 4000, power u w i (b * 4000 + x.val)

section Sums

variable (u : Fin 1024 → Fin 128 → ℝ) (w : Fin 100000 → Fin 128 → ℝ) (c : Dev nD)
  (hX : ∀ i k, X₀ c main_v0 (ix2 i k) = ((u i k * kappa : ℝ) : EReal)) (hW : ∀ r k, X₀ c main_arg3 (ix2 r k) = (w r k : EReal))

include hX hW

/-- What one block adds to a row's sum. -/
theorem block_sum (t : Fin cfg1.N) (s : Fin 5) (i : Fin 1024) :
    ∑ x, Ideal.exp2 (∑ k, imgs1 X₀ c (ix2 i k) * blks1 X₀ c t s (ix2 x k)) = ((blockSum u w i (5 * s.val + t.val) : ℝ) : EReal) := by
  have ht : t.val < 5 := t.isLt.trans_eq N_1
  rw [blockSum, ← sum_real]
  refine Finset.sum_congr rfl fun x _ => ?_
  have h : (5 * s.val + t.val) * 4000 + x.val < 100000 := by have := s.isLt; have := x.isLt; omega
  rw [Finset.sum_congr rfl fun k _ => by rw [imgs1_eq, hX, block_at X₀ c t s x k h, hW], dot_real, Ideal.exp2_coe, power, dif_pos h]
  rfl

/-- What one point adds to a row's sum. -/
theorem point_sum (t : Fin cfg1.N) (A : Vec Ideal S1024x1 .f32) (i : Fin 1024) (a : ℝ) (hA : A (ix2 i 0) = (a : EReal)) :
    accStep (imgs1 X₀ c) (blks1 X₀ c t) A (ix2 i 0)
      = ((a + (blockSum u w i (0 + t.val) + blockSum u w i (5 + t.val) + blockSum u w i (10 + t.val) + blockSum u w i (15 + t.val)
          + blockSum u w i (20 + t.val)) : ℝ) : EReal) := by
  unfold accStep
  rw [step_at, hA, block_sum X₀ u w c hX hW, block_sum X₀ u w c hX hW, block_sum X₀ u w c hX hW, block_sum X₀ u w c hX hW, block_sum X₀ u w c hX hW,
    ← EReal.coe_add, ← EReal.coe_add, ← EReal.coe_add, ← EReal.coe_add, ← EReal.coe_add]
  rfl

/-- After the last point a row's sum is that of the powers over all feature rows. -/
theorem sums_real (i : Fin 1024) : acc1 X₀ c 5 (ix2 i 0) = ((∑ r, (2 : ℝ) ^ (score u w i r * kappa) : ℝ) : EReal) := by
  have h0 : acc1 X₀ c 0 (ix2 i 0) = ((0 : ℝ) : EReal) := zero_at i 0
  have step : ∀ (t : Fin cfg1.N) (a : ℝ), acc1 X₀ c t.val (ix2 i 0) = (a : EReal) → acc1 X₀ c (t.val + 1) (ix2 i 0)
      = ((a + (blockSum u w i (0 + t.val) + blockSum u w i (5 + t.val) + blockSum u w i (10 + t.val) + blockSum u w i (15 + t.val)
          + blockSum u w i (20 + t.val)) : ℝ) : EReal) := fun t a h => by
    rw [acc1_succ]; exact point_sum X₀ u w c hX hW t _ i a h
  have h5 := step t1_4 _ (step t1_3 _ (step t1_2 _ (step t1_1 _ (step t1_0 _ h0))))
  refine h5.trans (congrArg _ ?_)
  exact sum_rows _ (power u w i) (fun r => dif_pos r.isLt) (blockSum u w i) fun b => rfl

end Sums

/-! ## The result -/

variable (m : (ℓ : Loc nD τ sig) → Buf (Elt Ideal) ℓ)

/-- The gathered rows are the targets' feature rows. -/
theorem gathered_at (c : Dev nD) (i : Fin 1024) (k : Fin 128) (h : (m (tgtAt c) (ix1 i)).toNat < 100000) :
    rows2 m c (ix2 i k) = m (ftrAt c) (ix2 ⟨(m (tgtAt c) (ix1 i)).toNat, h⟩ k) := by
  have e : rowAt (m (tgtAt c) (ix1 i)) k = ix2 ⟨(m (tgtAt c) (ix1 i)).toNat, h⟩ k := by
    funext a
    refine Fin.ext ?_
    fin_cases a
    · exact Nat.mod_eq_of_lt h
    · rfl
  rw [← e]
  show m (ftrAt c) (rowAt (m (tgtAt c) _) k) = _
  refine congrArg (fun q => m (ftrAt c) (rowAt (m (tgtAt c) q) k)) ?_
  funext a; fin_cases a; rfl

/-- The kernel's result is its one-element array, read as a scalar. -/
theorem loss_eq (c : Dev nD) (j : S_.Idx) :
    ∃ i, loss m c j = k3_pay1 (F := Ideal) (V3 m c (at0 main_v0)) (V3 m c (at0 main_v2)) (V3 m c (at0 main_v1)) i := by
  have e4 : V4 m c (at0 main_v3) = k3_pay1 (F := Ideal) (V3 m c (at0 main_v0)) (V3 m c (at0 main_v2)) (V3 m c (at0 main_v1)) := Function.update_self _ _ _
  have h := StableHlo.reshape_result main_v3 main_v4 (rfl : (.f32 : EltTy) = .f32) shapeCasts_S1x1_S_ (by decide) (by decide) (V4 m c)
  rw [show V4 m c (Proc.devRef .tc main_v3) = _ from e4] at h
  refine ⟨Shape.reshapeEquiv shapeCasts_S1x1_S_ j, ?_⟩
  unfold loss V5
  exact congrFun h j

/-- The last kernel's value from real rows, real gathered rows and the sums of powers. -/
theorem combine_real (X Y : Vec Ideal S1024x128 .f32) (A : Vec Ideal S1024x1 .f32) (u : Fin 1024 → Fin 128 → ℝ) (w : Fin 100000 → Fin 128 → ℝ)
    (t : Fin 1024 → Fin 100000) (hX : ∀ i k, X (ix2 i k) = ((u i k * kappa : ℝ) : EReal)) (hY : ∀ i k, Y (ix2 i k) = (w (t i) k : EReal))
    (hA : ∀ i, A (ix2 i 0) = ((∑ r, (2 : ℝ) ^ (score u w i r * kappa) : ℝ) : EReal)) (j : S1x1.Idx) :
    k3_pay1 (F := Ideal) X Y A j = (((∑ i, (Real.log (∑ r, (2 : ℝ) ^ (score u w i r * kappa)) * (Real.log 2)⁻¹
        - score u w i (t i) * kappa)) / 1024 * Real.log 2 : ℝ) : EReal) := by
  have hd : ∀ i, ∑ k, X (ix2 i k) * Y (ix2 i k) = ((score u w i (t i) * kappa : ℝ) : EReal) := fun i => by
    rw [← dot_real]; exact Finset.sum_congr rfl fun k _ => by rw [hX, hY]
  have hr : ∀ i, Ideal.log (A (ix2 i 0)) * (((Real.log 2)⁻¹ : ℝ) : EReal) - ∑ k, X (ix2 i k) * Y (ix2 i k)
      = ((Real.log (∑ r, (2 : ℝ) ^ (score u w i r * kappa)) * (Real.log 2)⁻¹ - score u w i (t i) * kappa : ℝ) : EReal) := fun i => by
    have hpos : ¬ (∑ r, (2 : ℝ) ^ (score u w i r * kappa)) ≤ 0 :=
      not_le.2 (Finset.sum_pos (fun r _ => Real.rpow_pos_of_pos two_pos _) ⟨0, Finset.mem_univ _⟩)
    rw [hd, hA, Ideal.log_coe, if_neg hpos, ← EReal.coe_mul, ← EReal.coe_sub]
  rw [combine_at, ln2_real, log2e_real, batch_real, Finset.sum_congr rfl fun i _ => hr i, sum_real, div_real _ (by norm_num), ← EReal.coe_mul]

/-- With real normalised rows `u`, real feature rows `w` and targets in range, the kernel's result is the mean over the
    rows of the logarithm of the sum of powers less the target's exponent, brought to natural logarithms. -/
theorem loss_real (c : Dev nD) (X : Vec Ideal S1024x128 .f32) (hX : m ((SparseCore.T c).loc main_arg0) = X) (hm : InRange m)
    (u : Fin 1024 → Fin 128 → ℝ) (w : Fin 100000 → Fin 128 → ℝ)
    (hu : ∀ i k, ∀ a : ℝ, X (ix2 i k) * Ideal.div a (max (Ideal.sqrt (∑ x, X (ix2 i x) * X (ix2 i x))) (Ideal.ofBits .f32 0x2B8CBCCC#32))
        = ((u i k * a : ℝ) : EReal))
    (hw : ∀ r k, m (ftrAt c) (ix2 r k) = (w r k : EReal)) (j : S_.Idx) :
    loss m c j = (((∑ i, (Real.log (∑ r, (2 : ℝ) ^ (score u w i r * kappa)) * (Real.log 2)⁻¹
        - score u w i ⟨(m (tgtAt c) (ix1 i)).toNat, hm c (ix1 i)⟩ * kappa)) / 1024 * Real.log 2 : ℝ) : EReal) := by
  have e1 : ∀ i k, onRefs (V1 m) c main_v0 (ix2 i k) = ((u i k * kappa : ℝ) : EReal) := fun i k => by
    rw [show onRefs (V1 m) c main_v0 = k0_pay1 (F := Ideal) X from hX ▸ Function.update_self _ _ _, prep_at, log2e_over_temp_real]
    exact hu i k kappa
  have e2 : ∀ r k, onRefs (V1 m) c main_arg3 (ix2 r k) = (w r k : EReal) := fun r k => by
    rw [show onRefs (V1 m) c main_arg3 = m (ftrAt c) from V1_same m c main_arg3 (by decide)]; exact hw r k
  have f0 : V3 m c (at0 main_v0) = onRefs (V1 m) c main_v0 := (V3_same m c main_v0 (by decide)).trans (V2_same m c main_v0 (by decide))
  have f1 : V3 m c (at0 main_v1) = acc1 (onRefs (V1 m)) c 5 := (V3_same m c main_v1 (by decide)).trans (Function.update_self _ _ _)
  have f2 : V3 m c (at0 main_v2) = rows2 m c := Function.update_self _ _ _
  obtain ⟨i₀, hl⟩ := loss_eq m c j
  rw [hl, f0, f1, f2]
  exact combine_real _ _ _ u w (fun i => ⟨(m (tgtAt c) (ix1 i)).toNat, hm c (ix1 i)⟩) e1
    (fun i k => (gathered_at m c i k (hm c (ix1 i))).trans (hw _ k)) (fun i => sums_real (onRefs (V1 m)) u w c e1 e2 i) i₀

end Cert.Proof.KI

end
-- ==== Proof.Value.lean ====
module

public import proofs.«01_k».proof.Proof.Pre
public import proofs.«01_k».proof.Proof.KI.Value
public import proofs.«01_k».proof.Proof.Gen.ReferenceIdeal.Run

@[expose] public section

/-! # The kernel's result is the reference's

With finite features and targets in range both results are real numbers. The kernel's is a mean of logarithms to base 2
brought to natural logarithms, the reference's less a mean of shifted natural log-probabilities; they are equal row by row. -/

set_option maxRecDepth 16384

noncomputable section

namespace Cert.Proof

open Idealize.ShloMosaic Idealize.SL.Sem
open Cert.Proof.RI (scale score)

/-- The kernel's closed form equals the reference's. -/
theorem forms_agree (u : Fin 1024 → Fin 128 → ℝ) (w : Fin 100000 → Fin 128 → ℝ) (t : Fin 1024 → Fin 100000) (M : Fin 1024 → ℝ) :
    (∑ i, (Real.log (∑ r, (2 : ℝ) ^ (score u w i r * KI.kappa)) * (Real.log 2)⁻¹ - score u w i (t i) * KI.kappa)) / 1024 * Real.log 2
      = -((∑ i, (score u w i (t i) * scale - M i - Real.log (∑ r, Real.exp (score u w i r * scale - M i)))) / 1024) := by
  rw [div_mul_eq_mul_div, Finset.sum_mul, ← neg_div, ← Finset.sum_neg_distrib]
  congr 1
  exact Finset.sum_congr rfl fun i _ => row_loss (fun r => score u w i r) (t i) (M i) scale

/-- The kernel's result equals the reference's on the same arguments. -/
theorem loss_eq_result (m : (ℓ : Loc Cert.KernelIdeal.nD Cert.KernelIdeal.τ Cert.KernelIdeal.sig) → Buf (Elt Ideal) ℓ) (c : Dev Cert.KernelIdeal.nD)
    (X : FVec Ideal Cert.KernelIdeal.S1024x128 .f32) (t : IVec Cert.KernelIdeal.S1024 32) (W : FVec Ideal Cert.KernelIdeal.S100000x128 .f32)
    (hX : m ((SparseCore.T c).loc Cert.KernelIdeal.main_arg0) = X) (ht : m (KI.tgtAt c) = t) (hW : m (KI.ftrAt c) = W)
    (hm : KI.InRange m) (hf : ∀ j, (W j : EReal) ≠ ⊤ ∧ (W j : EReal) ≠ ⊥) : KI.loss m c = RI.result X t W := by
  choose u hu hs using fun i : Fin 1024 => (by
    obtain ⟨u, h⟩ := unit_row fun k : Fin 128 => X (ix2 i k)
    exact ⟨u, fun k => (h k).1, fun k => (h k).2⟩ : ∃ u : Fin 128 → ℝ,
      (∀ k, Ideal.div (X (ix2 i k)) (max (Ideal.sqrt (∑ x, X (ix2 i x) * X (ix2 i x))) (Ideal.ofBits .f32 0x2B8CBCCC#32)) = (u k : EReal))
      ∧ ∀ k, ∀ a : ℝ, X (ix2 i k) * Ideal.div a (max (Ideal.sqrt (∑ x, X (ix2 i x) * X (ix2 i x))) (Ideal.ofBits .f32 0x2B8CBCCC#32))
        = ((u k * a : ℝ) : EReal))
  have hw : ∀ (r : Fin 100000) (k : Fin 128), W (ix2 r k) = ((EReal.toReal (W (ix2 r k)) : ℝ) : EReal) := fun r k =>
    (EReal.coe_toReal (hf _).1 (hf _).2).symm
  subst ht hW
  obtain ⟨M, hM⟩ := RI.result_real X (m (KI.tgtAt c)) (m (KI.ftrAt c)) u (fun r k => EReal.toReal (m (KI.ftrAt c) (ix2 r k))) hu hw fun i => hm c (ix1 i)
  funext j
  exact (KI.loss_real m c X hX hm u (fun r k => EReal.toReal (m (KI.ftrAt c) (ix2 r k))) hs hw j).trans
    ((congrArg _ (forms_agree u _ (fun i => ⟨(m (KI.tgtAt c) (ix1 i)).toNat, hm c (ix1 i)⟩) M)).trans (hM j).symm)

/-- From memories that agree on the arguments, with finite features and targets in range, the ideal kernel and the ideal
    reference end with the same loss, their arguments unchanged. -/
theorem algebraic : Cert.algebraic_KernelIdeal_ReferenceIdeal_pre_features_finite_in_range (hKernelIdeal := Cert.KernelIdeal.Gen.facts)
    (hReferenceIdeal := Cert.ReferenceIdeal.Gen.facts) (hPre_features_finite_in_range := Cert.Pre_features_finite_in_range.Gen.facts) := by
  intro m g m' g' hpre hag
  have hm : KI.InRange m := fun d j => target_lt' _ _ _ _ (hpre d) j
  refine ⟨fun c => KI.loss m c, (θ_run Cert.KernelIdeal.defs _ _).mono (fun _ h => h.1) (KI.run_main (F := Ideal) m g hm),
    (θ_run Cert.ReferenceIdeal.defs _ _).mono (fun _ h c => ⟨(h c).1.trans ?_, (h c).2⟩) (Cert.ReferenceIdeal.Value.run (F := Ideal) m' g')⟩
  obtain ⟨h0, -, h2, h3⟩ := hag c
  refine (RI.result_eq m' c).trans ?_
  rw [h0, h2, h3]
  exact (loss_eq_result m c _ _ _ rfl rfl rfl hm fun j => feature_finite _ _ _ _ (hpre c) j).symm

end Cert.Proof

end
-- ==== Proof.lean ====
module

public import proofs.«01_k».proof.Defs
public import proofs.«01_k».proof.Proof.Frames
public import proofs.«01_k».proof.Proof.Value

@[expose] public section

/-- Everything the statement file claims, from the modules that prove each part. -/
theorem Cert.Proof.claim : Cert.Claim :=
  ⟨Cert.Kernel.Gen.facts, Cert.KernelIdeal.Gen.facts, Cert.ReferenceIdeal.Gen.facts, Cert.Pre_in_range.Gen.facts,
    Cert.Pre_features_finite_in_range.Gen.facts,
    Cert.Proof.frame_kernel, Cert.Proof.frame_ideal, Cert.Proof.frame_ideal', Cert.Proof.frame_reference, Cert.Proof.frame_reference',
    Cert.Proof.preserves, Cert.Proof.algebraic⟩

end
